-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_met [hPre_met : Cert.Pre_met.Facts] (m : (ℓ : Loc Cert.KernelIdeal.nD Cert.KernelIdeal.τ Cert.KernelIdeal.sig) → Buf (Elt Ideal) ℓ) : Prop :=
  ∀ c : Dev Cert.KernelIdeal.nD,
    (Cert.Pre_met.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_met [hPre_met : Cert.Pre_met.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_met.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_met [hKernelIdeal : Cert.KernelIdeal.Facts] [hPre_met : Cert.Pre_met.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_met m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_met [hReferenceIdeal : Cert.ReferenceIdeal.Facts] [hPre_met : Cert.Pre_met.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_met m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_met [hKernelIdeal : Cert.KernelIdeal.Facts] [hReferenceIdeal : Cert.ReferenceIdeal.Facts] [hPre_met : Cert.Pre_met.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_met m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_met : Cert.Pre_met.Facts),
    quiescent_Kernel (hKernel := hKernel)
    ∧ quiescent_KernelIdeal (hKernelIdeal := hKernelIdeal)
    ∧ quiescent_KernelIdeal_pre_met (hKernelIdeal := hKernelIdeal) (hPre_met := hPre_met)
    ∧ quiescent_ReferenceIdeal (hReferenceIdeal := hReferenceIdeal)
    ∧ quiescent_ReferenceIdeal_pre_met (hReferenceIdeal := hReferenceIdeal) (hPre_met := hPre_met)
    ∧ preserves_Kernel_KernelIdeal
    ∧ algebraic_KernelIdeal_ReferenceIdeal_pre_met (hKernelIdeal := hKernelIdeal) (hReferenceIdeal := hReferenceIdeal) (hPre_met := hPre_met)
-- ==== Pre_met.lean ====
abbrev S32x1000000 : Shape := ⟨2, ![32, 1000000]⟩
abbrev S_ : Shape := ⟨0, ![]⟩

class Facts : Prop where
  bcast_S_S32x1000000 : S_.BroadcastsInDim S32x1000000 (![] : Fin 0 → Fin S32x1000000.rank)

variable [Facts]

def fn {F : FTy → Type} [FloatOps F] (main_arg0 : FVec F S32x1000000 .f32) (main_arg1 : FVec F S32x1000000 .f32) : IVec S32x1000000 1 :=
  let main_cst : FVec F S_ .f32 := constant S_ .f32 0xFF800000#32
  let main_v0 : FVec F S32x1000000 .f32 := broadcastInDim S32x1000000 ![] bcast_S_S32x1000000 main_cst
  let main_v1 : IVec S32x1000000 1 := cmpf .ogt main_arg0 main_v0
  let main_cst_0 : FVec F S_ .f32 := constant S_ .f32 0x2EDBE6FF#32
  let main_v2 : FVec F S32x1000000 .f32 := broadcastInDim S32x1000000 ![] bcast_S_S32x1000000 main_cst_0
  let main_v3 : FVec F S32x1000000 .f32 := addf main_arg1 main_v2
  let main_cst_1 : FVec F S_ .f32 := constant S_ .f32 0x00000000#32
  let main_v4 : FVec F S32x1000000 .f32 := broadcastInDim S32x1000000 ![] bcast_S_S32x1000000 main_cst_1
  let main_v5 : IVec S32x1000000 1 := cmpf .ogt main_v3 main_v4
  let main_v6 : IVec S32x1000000 1 := andi main_v1 main_v5
  main_v6
-- ==== Kernel.lean ====
abbrev S32x1000000 : Shape := ⟨2, ![32, 1000000]⟩
abbrev S32x128 : Shape := ⟨2, ![32, 128]⟩
abbrev S32x32768 : Shape := ⟨2, ![32, 32768]⟩
abbrev S32x1 : Shape := ⟨2, ![32, 1]⟩
abbrev S32 : Shape := ⟨1, ![32]⟩

abbrev nBuf : Space → Nat
  | .hbm => 9
  | .vmem => 16
  | .smem => 0
  | _ => 0

abbrev bufTy : (tb : Table) → Fin (tcTables nBuf tb) → BufTy
  | .hbm, ⟨0, _⟩ => ⟨S32x1000000, .f32⟩
  | .hbm, ⟨1, _⟩ => ⟨S32x1000000, .f32⟩
  | .hbm, ⟨2, _⟩ => ⟨S32x128, .f32⟩
  | .hbm, ⟨3, _⟩ => ⟨S32x128, .f32⟩
  | .hbm, ⟨4, _⟩ => ⟨S32x128, .f32⟩
  | .hbm, ⟨5, _⟩ => ⟨S32x128, .f32⟩
  | .hbm, ⟨6, _⟩ => ⟨S32x1, .i32⟩
  | .hbm, ⟨7, _⟩ => ⟨S32x1, .f32⟩
  | .hbm, ⟨8, _⟩ => ⟨S32, .i32⟩
  | .local _ .vmem, ⟨0, _⟩ => ⟨S32x32768, .f32⟩
  | .local _ .vmem, ⟨1, _⟩ => ⟨S32x32768, .f32⟩
  | .local _ .vmem, ⟨2, _⟩ => ⟨S32x32768, .f32⟩
  | .local _ .vmem, ⟨3, _⟩ => ⟨S32x32768, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x32768, .f32⟩
  | .local _ .vmem, ⟨9, _⟩ => ⟨S32x32768, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x1, .i32⟩
  | .local _ .vmem, ⟨15, _⟩ => ⟨S32x1, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨1, ![30], ![false]⟩

@[reducible] def k0_t1_loop : Scf.Loop 32 :=
  let c0_i32_8 : BitVec 32 := 0#32
  let c256_i32 : BitVec 32 := 256#32
  let v17 : BitVec 32 := Scalar.addi c0_i32_8 c256_i32
  let c1_i32 : BitVec 32 := 1#32
  ⟨c0_i32_8, v17, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c128_i32 : BitVec 32 := 128#32
  let v23 : BitVec 32 := Scalar.muli arg7 c128_i32
  v23
def k0_off1 (k0_t1 : Fin k0_t1_loop.trips) : Fin 2 → Nat :=
  let c0_18 : Index := 0#32
  let c0_i32_8 : BitVec 32 := 0#32
  let c1_i32 : BitVec 32 := 1#32
  let arg7 : BitVec 32 := Scf.iv c0_i32_8 c1_i32 k0_t1
  let c128_i32 : BitVec 32 := 128#32
  let v23 : BitVec 32 := Scalar.muli arg7 c128_i32
  let v24 : BitVec 32 := v23
  let v25 : Index := Scalar.indexCast v24
  ![0, v25.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![1], ![false]⟩

@[reducible] def k1_t1_loop : Scf.Loop 32 :=
  let c0_i32 : BitVec 32 := 0#32
  let c256_i32 : BitVec 32 := 256#32
  let v12 : BitVec 32 := Scalar.addi c0_i32 c256_i32
  let c1_i32 : BitVec 32 := 1#32
  ⟨c0_i32, v12, c1_i32⟩
def k1_mult1 (k1_t1 : Fin k1_t1_loop.trips) : BitVec 32 :=
  let c0_i32 : BitVec 32 := 0#32
  let c1_i32 : BitVec 32 := 1#32
  let arg9 : BitVec 32 := Scf.iv c0_i32 c1_i32 k1_t1
  let c128_i32 : BitVec 32 := 128#32
  let v37 : BitVec 32 := Scalar.muli arg9 c128_i32
  v37
def k1_off1 (k1_t1 : Fin k1_t1_loop.trips) : Fin 2 → Nat :=
  let c0_19 : Index := 0#32
  let c0_i32 : BitVec 32 := 0#32
  let c1_i32 : BitVec 32 := 1#32
  let arg9 : BitVec 32 := Scf.iv c0_i32 c1_i32 k1_t1
  let c128_i32 : BitVec 32 := 128#32
  let v37 : BitVec 32 := Scalar.muli arg9 c128_i32
  let v38 : BitVec 32 := v37
  let v39 : Index := Scalar.indexCast v38
  ![0, v39.toNat]
def cc1_transform_0 (i : grid1.Coords) : Fin 2 → Nat :=
  let arg0 : BitVec 32 := BitVec.ofNat 32 (i 0).val
  let c0_i32 : BitVec 32 := 0#32
  let c30_i32 : BitVec 32 := 30#32
  let c0_i32_0 : BitVec 32 := 0#32
  ![c0_i32.toNat, c30_i32.toNat]

def cc1_transform_1 (i : grid1.Coords) : Fin 2 → Nat :=
  let arg0 : BitVec 32 := BitVec.ofNat 32 (i 0).val
  let c0_i32 : BitVec 32 := 0#32
  let c30_i32 : BitVec 32 := 30#32
  let c0_i32_0 : BitVec 32 := 0#32
  ![c0_i32.toNat, c30_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x32768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x32768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x1 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩
abbrev S32x1x1 : Shape := ⟨3, ![32, 1, 1]⟩
abbrev S1 : Shape := ⟨1, ![1]⟩
abbrev S1x1x1 : Shape := ⟨3, ![1, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S32x1000000, .f32⟩
  | .hbm, ⟨1, _⟩ => ⟨S32x1000000, .f32⟩
  | .hbm, ⟨2, _⟩ => ⟨S_, .f32⟩
  | .hbm, ⟨3, _⟩ => ⟨S32x1000000, .f32⟩
  | .hbm, ⟨4, _⟩ => ⟨S32x1000000, .f32⟩
  | .hbm, ⟨5, _⟩ => ⟨S32x1000000, .f32⟩
  | .hbm, ⟨6, _⟩ => ⟨S32x1000000, .f32⟩
  | .hbm, ⟨7, _⟩ => ⟨S_, .f32⟩
  | .hbm, ⟨8, _⟩ => ⟨S32x1000000, .f32⟩
  | .hbm, ⟨9, _⟩ => ⟨S32x1000000, .f32⟩
  | .hbm, ⟨10, _⟩ => ⟨S32x1000000, .f32⟩
  | .hbm, ⟨11, _⟩ => ⟨S32x1000000, .f32⟩
  | .hbm, ⟨12, _⟩ => ⟨S_, .f32⟩
  | .hbm, ⟨13, _⟩ => ⟨S32x1000000, .f32⟩
  | .hbm, ⟨14, _⟩ => ⟨S32x1000000, .f32⟩
  | .hbm, ⟨15, _⟩ => ⟨S32x1000000, .f32⟩
  | .hbm, ⟨16, _⟩ => ⟨S32x1000000, .i32⟩
  | .hbm, ⟨17, _⟩ => ⟨S_, .f32⟩
  | .hbm, ⟨18, _⟩ => ⟨S_, .i32⟩
  | .hbm, ⟨19, _⟩ => ⟨S32, .f32⟩
  | .hbm, ⟨20, _⟩ => ⟨S32, .i32⟩
  | .hbm, ⟨21, _⟩ => ⟨S_, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32x1, .f32⟩
  | .hbm, ⟨27, _⟩ => ⟨S32x1000000, .f32⟩
  | .hbm, ⟨28, _⟩ => ⟨S32x1000000, .f32⟩
  | .hbm, ⟨29, _⟩ => ⟨S32x1000000, .f32⟩
  | .hbm, ⟨30, _⟩ => ⟨S_, .f32⟩
  | .hbm, ⟨31, _⟩ => ⟨S32, .f32⟩
  | .hbm, ⟨32, _⟩ => ⟨S32x1, .f32⟩
  | .hbm, ⟨33, _⟩ => ⟨S32x1, .f32⟩
  | .hbm, ⟨34, _⟩ => ⟨S32x1000000, .f32⟩
  | .hbm, ⟨35, _⟩ => ⟨S32x1000000, .f32⟩
  | .hbm, ⟨36, _⟩ => ⟨S32x1, .i32⟩
  | .hbm, ⟨37, _⟩ => ⟨S_, .i32⟩
  | .hbm, ⟨38, _⟩ => ⟨S32x1, .i32⟩
  | .hbm, ⟨39, _⟩ => ⟨S32x1, .i1⟩
  | .hbm, ⟨40, _⟩ => ⟨S_, .i32⟩
  | .hbm, ⟨41, _⟩ => ⟨S32x1, .i32⟩
  | .hbm, ⟨42, _⟩ => ⟨S32x1, .i32⟩
  | .hbm, ⟨43, _⟩ => ⟨S32x1, .i32⟩
  | .hbm, ⟨44, _⟩ => ⟨S32x1x1, .i32⟩
  | .hbm, ⟨45, _⟩ => ⟨S1, .i32⟩
  | .hbm, ⟨46, _⟩ => ⟨S_, .i32⟩
  | .hbm, ⟨47, _⟩ => ⟨S32x1x1, .i32⟩
  | .hbm, ⟨48, _⟩ => ⟨S32x1x1, .i1⟩
  | .hbm, ⟨49, _⟩ => ⟨S1x1x1, .i32⟩
  | .hbm, ⟨50, _⟩ => ⟨S32x1x1, .i32⟩
  | .hbm, ⟨51, _⟩ => ⟨S32x1x1, .i1⟩
  | .hbm, ⟨52, _⟩ => ⟨S32x1x1, .i1⟩
  | .hbm, ⟨53, _⟩ => ⟨S_, .i1⟩
  | .hbm, ⟨54, _⟩ => ⟨S32x1, .i1⟩
  | .hbm, ⟨55, _⟩ => ⟨S32x1, .f32⟩
  | .hbm, ⟨56, _⟩ => ⟨S_, .f32⟩
  | .hbm, ⟨57, _⟩ => ⟨S32x1, .f32⟩
  | .hbm, ⟨58, _⟩ => ⟨S32x1, .f32⟩
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_cst : Ref sig .tc := ⟨.hbm, 17, rfl⟩
abbrev main_call0_c : Ref sig .tc := ⟨.hbm, 18, rfl⟩
abbrev main_call0_v1_0 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_call1_cst_0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_cst_1 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_v12 : Ref sig .tc := ⟨.hbm, 35, rfl⟩
abbrev main_v13 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_cst : Ref sig .tc := ⟨.hbm, 56, rfl⟩
abbrev main_call2_v14 : Ref sig .tc := ⟨.hbm, 57, rfl⟩
abbrev main_v14 : Ref sig .tc := ⟨.hbm, 58, rfl⟩

abbrev nD : Nat := 1
abbrev τ : Topo := Topo.v7x

variable {F : FTy → Type} [FloatOps F]
-- ==== Proof.Chunks.lean ====
/- What the two kernels' bodies compute, and that they compute it.

   A kernel walks the 256 chunks (128 columns each) of its block, carrying per row and lane the largest score met, the column
   and the logit it was met at, the running sum of `exp (x - 16)`, and the column the next chunk stands at. `stepA` / `stepB`
   is one chunk, `foldA` / `foldB` the chunks below a given one; the second kernel then reduces over the lanes (`outB`). Each
   body's triple says that it leaves exactly these values in its output buffers, whatever float type it is run at. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values -/

/-- The four accumulators: largest score, its column, its logit, the sum of exponentials; each per row and lane. -/
abbrev Accs (F : FTy → Type) [FloatOps F] : Type :=
  Vec F S32x128 .f32 × Vec F S32x128 .f32 × Vec F S32x128 .f32 × Vec F S32x128 .f32

/-- What a chunk loop carries: the accumulators and the column of the next chunk. -/
abbrev Carry (F : FTy → Type) [FloatOps F] : Type :=
  FVec F S32x128 .f32 × FVec F S32x128 .f32 × FVec F S32x128 .f32 × FVec F S32x128 .f32 × FVec F S32x128 .f32

/-- The accumulators out of what a loop carries. -/
def Carry.accs (a : Carry F) : Accs F := (a.1, a.2.1, a.2.2.1, a.2.2.2.1)

/-- Chunk `k` of a block, as the first kernel reads it. -/
abbrev chunkA (x : Vec F S32x32768 .f32) (k : Fin k0_t1_loop.trips) : Vec F S32x128 .f32 :=
  View.ld x (Rect.unit (k0_off1 k) ![32, 128] (k0_off1_inb k))

/-- Chunk `k` of a block, as the second kernel reads it. -/
abbrev chunkB (x : Vec F S32x32768 .f32) (k : Fin k1_t1_loop.trips) : Vec F S32x128 .f32 :=
  View.ld x (Rect.unit (k1_off1 k) ![32, 128] (k1_off1_inb k))

/-- One chunk of the first kernel. -/
def stepA (x u : Vec F S32x32768 .f32) (k : Fin k0_t1_loop.trips) (a : Carry F) : Carry F :=
  (k0_pay12 a.1 (chunkA x k) (chunkA u k), k0_pay13 a.1 a.2.1 a.2.2.2.2 (chunkA x k) (chunkA u k),
    k0_pay14 a.1 a.2.2.1 (chunkA x k) (chunkA u k), k0_pay15 a.2.2.2.1 (chunkA x k), k0_pay16 a.2.2.2.2)

/-- One chunk of the second kernel: as the first kernel's, with the columns past the array's end masked. -/
def stepB (x u : Vec F S32x32768 .f32) (k : Fin k1_t1_loop.trips) (a : Carry F) : Carry F :=
  (k1_pay9 a.1 a.2.2.2.2 (chunkB x k) (chunkB u k), k1_pay10 a.1 a.2.1 a.2.2.2.2 (chunkB x k) (chunkB u k),
    k1_pay11 a.1 a.2.2.1 a.2.2.2.2 (chunkB x k) (chunkB u k), k1_pay12 a.2.2.2.1 a.2.2.2.2 (chunkB x k), k1_pay13 a.2.2.2.2)

/-- The chunks below `n` of the first kernel, from `a`. -/
def foldA (x u : Vec F S32x32768 .f32) (a : Carry F) : ℕ → Carry F
  | 0 => a
  | n + 1 => if h : n < k0_t1_loop.trips then stepA x u ⟨n, h⟩ (foldA x u a n) else foldA x u a n

/-- The chunks below `n` of the second kernel, from `a`. -/
def foldB (x u : Vec F S32x32768 .f32) (a : Carry F) : ℕ → Carry F
  | 0 => a
  | n + 1 => if h : n < k1_t1_loop.trips then stepB x u ⟨n, h⟩ (foldB x u a n) else foldB x u a n

/-- The accumulators before the first block. -/
def initA : Accs F := (k0_pay1, k0_pay2, k0_pay3, k0_pay4)

/-- The accumulators after block `i` of the first kernel, from those before it. -/
def outA (i : grid0.Coords) (x u : Vec F S32x32768 .f32) (a : Accs F) : Accs F :=
  (foldA x u (a.1, a.2.1, a.2.2.1, a.2.2.2, k0_pay5 i) k0_t1_loop.trips).accs

/-- What the second kernel carries out of its chunk loop, from the accumulators the first kernel leaves. -/
def lastB (x u : Vec F S32x32768 .f32) (a : Accs F) : Carry F :=
  foldB x u (a.1, a.2.1, a.2.2.1, a.2.2.2, k1_pay1) k1_t1_loop.trips

/-- The second kernel's two results: the sampled column and the log-probability at it. -/
def outB (x u : Vec F S32x32768 .f32) (a : Accs F) : Vec F S32x1 .i32 × Vec F S32x1 .f32 :=
  (k1_pay15 (lastB x u a).1 (lastB x u a).2.1,
    k1_pay16 (lastB x u a).1 (lastB x u a).2.1 (lastB x u a).2.2.1 (lastB x u a).2.2.2.1)

/-! ## The loops' trips are these steps -/

set_option maxHeartbeats 1000000 in
/-- A trip of the first kernel's loop is `stepA`. -/
theorem tripA_eq (c : Dev nD) (i : grid0.Coords) (arg1 : Memref sig .tc .vmem S32x32768 .f32) (harg1 : arg1.IsWhole) (arg2 : Memref sig .tc .vmem S32x32768 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S32x128 .f32) (harg6 : arg6.IsWhole)
    (x u : Vec F S32x32768 .f32) (k : Fin k0_t1_loop.trips) (a : Carry F) :
    tripR_k0_t1 (F := F) Variants.none c none i arg1 harg1 arg2 harg2 arg3 harg3 arg4 harg4 arg5 harg5 arg6 harg6 (harg1.unread x) (harg2.unread u) k a = stepA x u k a := by
  unfold tripR_k0_t1 trip_k0_t1 stepA
  dsimp only
  simp only [View.readAt_eq_ld, harg1.read_unread, harg2.read_unread]

set_option maxHeartbeats 1000000 in
/-- A trip of the second kernel's loop is `stepB`. -/
theorem tripB_eq (c : Dev nD) (i : grid1.Coords) (arg1 : Memref sig .tc .vmem S32x32768 .f32) (harg1 : arg1.IsWhole) (arg2 : Memref sig .tc .vmem S32x32768 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x1 .i32) (harg7 : arg7.IsWhole) (arg8 : Memref sig .tc .vmem S32x1 .f32) (harg8 : arg8.IsWhole)
    (x u : Vec F S32x32768 .f32) (k : Fin k1_t1_loop.trips) (a : Carry F) :
    tripR_k1_t1 (F := F) Variants.none c none i arg1 harg1 arg2 harg2 arg3 harg3 arg4 harg4 arg5 harg5 arg6 harg6 arg7 harg7 arg8 harg8 (harg1.unread x) (harg2.unread u) k a = stepB x u k a := by
  unfold tripR_k1_t1 trip_k1_t1 stepB
  dsimp only
  simp only [View.readAt_eq_ld, harg1.read_unread, harg2.read_unread]

/-- The state of the first kernel's loop before chunk `n` is `foldA`. -/
theorem stA_eq (c : Dev nD) (i : grid0.Coords) (arg1 : Memref sig .tc .vmem S32x32768 .f32) (harg1 : arg1.IsWhole) (arg2 : Memref sig .tc .vmem S32x32768 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S32x128 .f32) (harg6 : arg6.IsWhole)
    (x u : Vec F S32x32768 .f32) (a : Carry F) (n : ℕ) (hn : n ≤ k0_t1_loop.trips) :
    st_k0_t1 (F := F) Variants.none c none i arg1 harg1 arg2 harg2 arg3 harg3 arg4 harg4 arg5 harg5 arg6 harg6 (harg1.unread x) (harg2.unread u) a n = foldA x u a n := by
  induction n with
  | zero => rfl
  | succ n ih =>
    rw [st_k0_t1_succ (k := ⟨n, hn⟩), tripA_eq, ih (Nat.le_of_succ_le hn)]
    rw [foldA, dif_pos (show n < k0_t1_loop.trips from hn)]

/-- The state of the second kernel's loop before chunk `n` is `foldB`. -/
theorem stB_eq (c : Dev nD) (i : grid1.Coords) (arg1 : Memref sig .tc .vmem S32x32768 .f32) (harg1 : arg1.IsWhole) (arg2 : Memref sig .tc .vmem S32x32768 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x1 .i32) (harg7 : arg7.IsWhole) (arg8 : Memref sig .tc .vmem S32x1 .f32) (harg8 : arg8.IsWhole)
    (x u : Vec F S32x32768 .f32) (a : Carry F) (n : ℕ) (hn : n ≤ k1_t1_loop.trips) :
    st_k1_t1 (F := F) Variants.none c none i arg1 harg1 arg2 harg2 arg3 harg3 arg4 harg4 arg5 harg5 arg6 harg6 arg7 harg7 arg8 harg8 (harg1.unread x) (harg2.unread u) a n = foldB x u a n := by
  induction n with
  | zero => rfl
  | succ n ih =>
    rw [st_k1_t1_succ (k := ⟨n, hn⟩), tripB_eq, ih (Nat.le_of_succ_le hn)]
    rw [foldB, dif_pos (show n < k1_t1_loop.trips from hn)]

end Cert.KernelIdeal.Gen

end
-- ==== Proof.Body.lean ====
/- The two kernels' bodies compute the values stated of them: `outA` at each block of the first kernel, `outB` in the second. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.Chunks
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The bodies -/

/-- The condition under which the first kernel initialises the accumulators. -/
abbrev firstA (i : grid0.Coords) : Prop :=
  (Scalar.cmpi .ne (Scalar.extui (Scalar.cmpi .eq (BitVec.ofNat 32 (i 0).val) 0#32)) 0#32) = 1#1

/-- Offset zero on both axes. -/
theorem hz2 : (![0, 0] : Fin 2 → Nat) = fun _ => 0 := funext fun a => by fin_cases a <;> rfl

/-- An accumulator loaded whole is itself. -/
theorem ld_acc (X : Vec F S32x128 .f32) :
    View.ld X (Rect.unit (s := S32x128) ![0, 0] ![32, 128] inb_S32x128_S32x128_0_0) = X :=
  View.ld_unit_zero (S := S32x128) hz2 inb_S32x128_S32x128_0_0 X

/-- An accumulator loaded whole after a whole store is what was stored. -/
theorem readCov_acc (v : View sig .tc .vmem S32x128 .f32) (X : Vec F S32x128 .f32) (L : List (View.Piece (Elt F) S32x128 .f32)) :
    v.readCov (⟨Rect.unit (s := S32x128) ![0, 0] ![32, 128] inb_S32x128_S32x128_0_0, X⟩ :: L)
      (Rect.unit (s := S32x128) ![0, 0] ![32, 128] inb_S32x128_S32x128_0_0).toLoadRect = X :=
  View.readCov_full (s := S32x128) v inb_S32x128_S32x128_0_0 inb_S32x128_S32x128_0_0 X L

/-- The accumulators reach the loop through a reshape to their own shape. -/
theorem loopStart (i : grid0.Coords) (x u : Vec F S32x32768 .f32) (a b c d : Vec F S32x128 .f32) :
    foldA x u (k0_pay6 a, k0_pay7 b, k0_pay8 c, k0_pay9 d, k0_pay5 i) k0_t1_loop.trips
      = foldA x u (a, b, c, d, k0_pay5 i) k0_t1_loop.trips := by
  unfold k0_pay6 k0_pay7 k0_pay8 k0_pay9; simp only [shapeCast_self]

set_option maxHeartbeats 4000000 in
/-- The first kernel's body: it leaves `outA` of what it starts from, the initial accumulators at the first block and
    what its buffers hold at the others. -/
theorem bodyA_run (c : Dev nD) (i : grid0.Coords) (arg1 : Memref sig .tc .vmem S32x32768 .f32) (harg1 : arg1.IsWhole) (arg2 : Memref sig .tc .vmem S32x32768 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S32x128 .f32) (harg6 : arg6.IsWhole)
    (x u : Vec F S32x32768 .f32) (d a : Accs F) (hfirst : firstA i → a = initA) (hlater : ¬ firstA i → a = d)
    (E : Set ℕ) (K : PUnit → sProp 𝕄) :
    iprop(owns (c : Thread nD τ) arg1 fullShare x ∗ owns (c : Thread nD τ) arg2 fullShare u ∗ owns (c : Thread nD τ) arg3 fullShare d.1
        ∗ owns (c : Thread nD τ) arg4 fullShare d.2.1 ∗ owns (c : Thread nD τ) arg5 fullShare d.2.2.1 ∗ owns (c : Thread nD τ) arg6 fullShare d.2.2.2
        ∗ (iprop(owns (c : Thread nD τ) arg1 fullShare x ∗ owns (c : Thread nD τ) arg2 fullShare u ∗ owns (c : Thread nD τ) arg3 fullShare (outA i x u a).1
        ∗ owns (c : Thread nD τ) arg4 fullShare (outA i x u a).2.1 ∗ owns (c : Thread nD τ) arg5 fullShare (outA i x u a).2.2.1
        ∗ owns (c : Thread nD τ) arg6 fullShare (outA i x u a).2.2.2) -∗ K ⟨⟩))
      ⊢ wp frame (wpE (defs₀ (F := F)) Variants.none c none) E (cc0__body_a i arg1 harg1 arg2 harg2 arg3 harg3 arg4 harg4 arg5 harg5 arg6 harg6) K := by
  obtain ⟨d2, d3, d4, d5⟩ := d
  have hst : ∀ a : Carry F, st_k0_t1 (F := F) Variants.none c none i arg1 harg1 arg2 harg2 arg3 harg3 arg4 harg4 arg5 harg5 arg6 harg6 (harg1.unread x) (harg2.unread u) a
      (Scf.trips k0_t1_loop.lb k0_t1_loop.ub k0_t1_loop.st) = foldA x u a k0_t1_loop.trips := fun a =>
    stA_eq c i arg1 harg1 arg2 harg2 arg3 harg3 arg4 harg4 arg5 harg5 arg6 harg6 x u a _ le_rfl
  have hout : ∀ (a b c d : Vec F S32x128 .f32) (g : Carry F → FVec F S32x128 .f32),
      g (foldA x u (k0_pay6 a, k0_pay7 b, k0_pay8 c, k0_pay9 d, k0_pay5 i) k0_t1_loop.trips)
        = g (foldA x u (a, b, c, d, k0_pay5 i) k0_t1_loop.trips) := fun a b c d g => congrArg g (loopStart i x u a b c d)
  by_cases hc : firstA i
  · obtain rfl := hfirst hc
    simp only [cc0__body_a_eq_skeleton]; unfold cc0__body_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; rw [View.read_writes_full, hst]; sl_unfold_words
      simp only [readCov_acc]
      unfold outA Carry.accs; (try unfold initA); dsimp only
      exact hout _ _ _ _ (fun r => r.1)
    isplitl [H3]
    · iexists _; isplitr; swap; · iexact H3
      ipureintro; rw [View.read_writes_full, hst]; sl_unfold_words
      simp only [readCov_acc]
      unfold outA Carry.accs; (try unfold initA); dsimp only
      exact hout _ _ _ _ (fun r => r.2.1)
    isplitl [H4]
    · iexists _; isplitr; swap; · iexact H4
      ipureintro; rw [View.read_writes_full, hst]; sl_unfold_words
      simp only [readCov_acc]
      unfold outA Carry.accs; (try unfold initA); dsimp only
      exact hout _ _ _ _ (fun r => r.2.2.1)
    iexists _; isplitr; swap; · iexact H5
    ipureintro; rw [View.read_writes_full, hst]; sl_unfold_words
    simp only [readCov_acc]
    unfold outA Carry.accs; (try unfold initA); dsimp only
    exact hout _ _ _ _ (fun r => r.2.2.2.1)
  · obtain rfl := hlater hc
    simp only [cc0__body_a_eq_skeleton]; unfold cc0__body_a_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro; rw [View.read_writes_full, hst]; sl_unfold_words
      simp only [View.readAt_eq_ld, ld_acc, harg3.read_unread, harg4.read_unread, harg5.read_unread, harg6.read_unread]
      unfold outA Carry.accs; (try unfold initA); dsimp only
      exact hout _ _ _ _ (fun r => r.1)
    isplitl [H3]
    · iexists _; isplitr; swap; · iexact H3
      ipureintro; rw [View.read_writes_full, hst]; sl_unfold_words
      simp only [View.readAt_eq_ld, ld_acc, harg3.read_unread, harg4.read_unread, harg5.read_unread, harg6.read_unread]
      unfold outA Carry.accs; (try unfold initA); dsimp only
      exact hout _ _ _ _ (fun r => r.2.1)
    isplitl [H4]
    · iexists _; isplitr; swap; · iexact H4
      ipureintro; rw [View.read_writes_full, hst]; sl_unfold_words
      simp only [View.readAt_eq_ld, ld_acc, harg3.read_unread, harg4.read_unread, harg5.read_unread, harg6.read_unread]
      unfold outA Carry.accs; (try unfold initA); dsimp only
      exact hout _ _ _ _ (fun r => r.2.2.1)
    iexists _; isplitr; swap; · iexact H5
    ipureintro; rw [View.read_writes_full, hst]; sl_unfold_words
    simp only [View.readAt_eq_ld, ld_acc, harg3.read_unread, harg4.read_unread, harg5.read_unread, harg6.read_unread]
    unfold outA Carry.accs; (try unfold initA); dsimp only
    exact hout _ _ _ _ (fun r => r.2.2.2.1)

set_option maxHeartbeats 4000000 in
/-- The second kernel's body: it leaves `outB` of the accumulators it is given. -/
theorem bodyB_run (c : Dev nD) (i : grid1.Coords) (arg1 : Memref sig .tc .vmem S32x32768 .f32) (harg1 : arg1.IsWhole) (arg2 : Memref sig .tc .vmem S32x32768 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S32x1 .i32) (harg7 : arg7.IsWhole) (arg8 : Memref sig .tc .vmem S32x1 .f32) (harg8 : arg8.IsWhole)
    (x u : Vec F S32x32768 .f32) (a : Accs F) (d6 : Vec F S32x1 .i32) (d7 : Vec F S32x1 .f32) (E : Set ℕ) (K : PUnit → sProp 𝕄) :
    iprop(owns (c : Thread nD τ) arg1 fullShare x ∗ owns (c : Thread nD τ) arg2 fullShare u ∗ owns (c : Thread nD τ) arg3 fullShare a.1
        ∗ owns (c : Thread nD τ) arg4 fullShare a.2.1 ∗ owns (c : Thread nD τ) arg5 fullShare a.2.2.1 ∗ owns (c : Thread nD τ) arg6 fullShare a.2.2.2
        ∗ owns (c : Thread nD τ) arg7 fullShare d6 ∗ owns (c : Thread nD τ) arg8 fullShare d7
        ∗ (iprop(owns (c : Thread nD τ) arg1 fullShare x ∗ owns (c : Thread nD τ) arg2 fullShare u ∗ owns (c : Thread nD τ) arg3 fullShare a.1
        ∗ owns (c : Thread nD τ) arg4 fullShare a.2.1 ∗ owns (c : Thread nD τ) arg5 fullShare a.2.2.1 ∗ owns (c : Thread nD τ) arg6 fullShare a.2.2.2
        ∗ owns (c : Thread nD τ) arg7 fullShare (outB x u a).1 ∗ owns (c : Thread nD τ) arg8 fullShare (outB x u a).2) -∗ K ⟨⟩))
      ⊢ wp frame (wpE (defs₀ (F := F)) Variants.none c none) E (cc1__body_b i arg1 harg1 arg2 harg2 arg3 harg3 arg4 harg4 arg5 harg5 arg6 harg6 arg7 harg7 arg8 harg8) K := by
  obtain ⟨a2, a3, a4, a5⟩ := a
  have hst : ∀ a : Carry F, st_k1_t1 (F := F) Variants.none c none i arg1 harg1 arg2 harg2 arg3 harg3 arg4 harg4 arg5 harg5 arg6 harg6 arg7 harg7 arg8 harg8 (harg1.unread x) (harg2.unread u) a
      (Scf.trips k1_t1_loop.lb k1_t1_loop.ub k1_t1_loop.st) = foldB x u a k1_t1_loop.trips := fun a =>
    stB_eq c i arg1 harg1 arg2 harg2 arg3 harg3 arg4 harg4 arg5 harg5 arg6 harg6 arg7 harg7 arg8 harg8 x u a _ le_rfl
  have hin : ((k1_pay2 a2, k1_pay3 a3, k1_pay4 a4, k1_pay5 a5, k1_pay1) : Carry F) = (a2, a3, a4, a5, k1_pay1) := by
    unfold k1_pay2 k1_pay3 k1_pay4 k1_pay5; simp only [shapeCast_self]
  simp only [cc1__body_b_eq_skeleton]; unfold cc1__body_b_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; rw [View.read_writes_full]; unfold outB lastB; sl_unfold_words
    simp only [View.readAt_eq_ld, ld_acc, harg3.read_unread, harg4.read_unread, harg5.read_unread, harg6.read_unread, hst, hin]
  iexists _; isplitr; swap; · iexact H7
  ipureintro; rw [View.read_writes_full]; unfold outB lastB; sl_unfold_words
  simp only [View.readAt_eq_ld, ld_acc, harg3.read_unread, harg4.read_unread, harg5.read_unread, harg6.read_unread, hst, hin]

end Cert.KernelIdeal.Gen

end
-- ==== Proof.RegionA.lean ====
/- The first kernel's pipeline: what its windows hold point by point, and its body's obligation. -/
module

public import proofs.«01_k».proof.Proof.Body

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point, read off its array's contents when the kernel is entered. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- No block of this kernel reaches past its array's end. -/
theorem clip0_0 : ∀ (t : Fin cfg0.N) a, (cfg0.win 0).clip (cfg0.grid.coords t) a = none := by decide +kernel
/-- The same of the second argument. -/
theorem clip0_1 : ∀ (t : Fin cfg0.N) a, (cfg0.win 1).clip (cfg0.grid.coords t) a = none := by decide +kernel

/-- The two inputs' blocks as their buffers' contents. -/
def xblk0 (c : Dev nD) (t : Fin cfg0.N) : Vec F S32x32768 .f32 :=
  (cfg0.win 0).fill (cfg0.grid.coords t) (fun _ => Classical.arbitrary (Elt F (cfg0.win 0).elt)) (iblk0 V c 0 t)
/-- The same of the second argument. -/
def ublk0 (c : Dev nD) (t : Fin cfg0.N) : Vec F S32x32768 .f32 :=
  (cfg0.win 1).fill (cfg0.grid.coords t) (fun _ => Classical.arbitrary (Elt F (cfg0.win 1).elt)) (iblk0 V c 1 t)

/-- The four accumulators after the first `n` blocks. -/
def accA (c : Dev nD) : ℕ → Accs F
  | 0 => initA
  | n + 1 => if h : n < cfg0.N then outA (grid0.coords ⟨n, h⟩) (xblk0 V c ⟨n, h⟩) (ublk0 V c ⟨n, h⟩) (accA c n) else accA c n

/-- One more block: the accumulators are what the body makes of it and of the ones before. -/
theorem accA_succ (c : Dev nD) (t : Fin cfg0.N) :
    accA V c (t.val + 1) = outA (grid0.coords t) (xblk0 V c t) (ublk0 V c t) (accA V c t.val) := by
  rw [accA, dif_pos t.isLt]

/-- The kernel initialises the accumulators at the first point only. -/
theorem firstA_iff : ∀ t : Fin cfg0.N, firstA (grid0.coords t) ↔ t.val % 30 = 0 :=
  (fun t => by
    have ht : t.val < 30 := Nat.lt_of_lt_of_eq t.isLt N_0
    have e0 : (grid0.coords t 0).val = t.val / 1 % 30 := Pipeline.Grid.coords_val t 0 (by decide) rfl
    simp only [firstA, e0]
    word_cmp
   : ∀ t : Fin grid0.N, firstA (grid0.coords t) ↔ t.val % 30 = 0)

/-- The pipeline's data: inputs keep their blocks, the outputs hold the accumulators. -/
def dat0 (c : Dev nD) : Dat τ (Elt F) Unit ℕ (UR sig nD τ) ℕ cfg0 c where
  A w := V c (Pipeline.arrRef spec0 w)
  after w t := match w with
    | ⟨0, _⟩ => xblk0 V c t
    | ⟨1, _⟩ => ublk0 V c t
    | ⟨2, _⟩ => (accA V c (t.val + 1)).1
    | ⟨3, _⟩ => (accA V c (t.val + 1)).2.1
    | ⟨4, _⟩ => (accA V c (t.val + 1)).2.2.1
    | ⟨5, _⟩ => (accA V c (t.val + 1)).2.2.2
  Φ _ := Pipeline.ΦA spec0 c
  q _ := fullShare
  owed _ := 0

/-- Each window works on its array as the first launch finds it. -/
theorem A_eq0 (c : Dev nD) (w : Fin cfg0.W) : (dat0 V c).A w = V c (Pipeline.arrRef spec0 w) := by
  dsimp only [dat0]

/-- After a body the window of logits still holds its block. -/
theorem after0_0 (c : Dev nD) (t : Fin cfg0.N) : (dat0 V c).after 0 t = xblk0 V c t := by dsimp only [dat0]
/-- The same of the second argument. -/
theorem after0_1 (c : Dev nD) (t : Fin cfg0.N) : (dat0 V c).after 1 t = ublk0 V c t := by dsimp only [dat0]
/-- After a body the first output window holds the lanes' largest scores. -/
theorem after0_2 (c : Dev nD) (t : Fin cfg0.N) : (dat0 V c).after 2 t = (accA V c (t.val + 1)).1 := by dsimp only [dat0]
/-- The second holds their columns. -/
theorem after0_3 (c : Dev nD) (t : Fin cfg0.N) : (dat0 V c).after 3 t = (accA V c (t.val + 1)).2.1 := by dsimp only [dat0]
/-- The third holds their logits. -/
theorem after0_4 (c : Dev nD) (t : Fin cfg0.N) : (dat0 V c).after 4 t = (accA V c (t.val + 1)).2.2.1 := by dsimp only [dat0]
/-- The fourth holds the sums. -/
theorem after0_5 (c : Dev nD) (t : Fin cfg0.N) : (dat0 V c).after 5 t = (accA V c (t.val + 1)).2.2.2 := by dsimp only [dat0]

/-- Each input's buffer holds its block at every point. -/
theorem before0_0 (c : Dev nD) (t : Fin cfg0.N) (d) : (dat0 V c).before 0 t d = xblk0 V c t :=
  ((dat0 V c).before_in_eq_fetched 0 rfl (fun _ => rfl) (fun t t' _ => funext fun a => (clip0_0 t a).trans (clip0_0 t' a).symm)
      (fun t => by rw [after0_0]; unfold xblk0 Dat.blockOf iblk0; rw [Window.cut_fill, A_eq0]) t d).trans
    (by unfold Dat.fetched Dat.blockOf xblk0 iblk0; rw [A_eq0]; exact Pipeline.fill_of_clip_none (cfg := cfg0) 0 _ (clip0_0 t) _ _ _)
/-- The same of the second argument. -/
theorem before0_1 (c : Dev nD) (t : Fin cfg0.N) (d) : (dat0 V c).before 1 t d = ublk0 V c t :=
  ((dat0 V c).before_in_eq_fetched 1 rfl (fun _ => rfl) (fun t t' _ => funext fun a => (clip0_1 t a).trans (clip0_1 t' a).symm)
      (fun t => by rw [after0_1]; unfold ublk0 Dat.blockOf iblk0; rw [Window.cut_fill, A_eq0]) t d).trans
    (by unfold Dat.fetched Dat.blockOf ublk0 iblk0; rw [A_eq0]; exact Pipeline.fill_of_clip_none (cfg := cfg0) 1 _ (clip0_1 t) _ _ _)

/-- An output's buffer holds, after the first point, what the point before left. -/
theorem before0_2 (c : Dev nD) (t : Fin cfg0.N) (h0 : ¬t.val % 30 = 0) (d) : (dat0 V c).before 2 t d = (accA V c t.val).1 := by
  have hN : t.val < 30 := lt_of_lt_of_eq t.isLt (show cfg0.N = 30 from N_0)
  rw [Dat.before_out_kept _ 2 rfl t (by omega) (Bool.eq_false_iff.mpr fun h => by have := (flush0_2 _).mp h; dsimp only at this; omega)
    (fun _ => rfl) (fun _ _ => rfl), after0_2]
  dsimp only; rw [Nat.sub_add_cancel (by omega : 1 ≤ t.val)]
/-- The same of the columns. -/
theorem before0_3 (c : Dev nD) (t : Fin cfg0.N) (h0 : ¬t.val % 30 = 0) (d) : (dat0 V c).before 3 t d = (accA V c t.val).2.1 := by
  have hN : t.val < 30 := lt_of_lt_of_eq t.isLt (show cfg0.N = 30 from N_0)
  rw [Dat.before_out_kept _ 3 rfl t (by omega) (Bool.eq_false_iff.mpr fun h => by have := (flush0_3 _).mp h; dsimp only at this; omega)
    (fun _ => rfl) (fun _ _ => rfl), after0_3]
  dsimp only; rw [Nat.sub_add_cancel (by omega : 1 ≤ t.val)]
/-- The same of the logits. -/
theorem before0_4 (c : Dev nD) (t : Fin cfg0.N) (h0 : ¬t.val % 30 = 0) (d) : (dat0 V c).before 4 t d = (accA V c t.val).2.2.1 := by
  have hN : t.val < 30 := lt_of_lt_of_eq t.isLt (show cfg0.N = 30 from N_0)
  rw [Dat.before_out_kept _ 4 rfl t (by omega) (Bool.eq_false_iff.mpr fun h => by have := (flush0_4 _).mp h; dsimp only at this; omega)
    (fun _ => rfl) (fun _ _ => rfl), after0_4]
  dsimp only; rw [Nat.sub_add_cancel (by omega : 1 ≤ t.val)]
/-- The same of the sums. -/
theorem before0_5 (c : Dev nD) (t : Fin cfg0.N) (h0 : ¬t.val % 30 = 0) (d) : (dat0 V c).before 5 t d = (accA V c t.val).2.2.2 := by
  have hN : t.val < 30 := lt_of_lt_of_eq t.isLt (show cfg0.N = 30 from N_0)
  rw [Dat.before_out_kept _ 5 rfl t (by omega) (Bool.eq_false_iff.mpr fun h => by have := (flush0_5 _).mp h; dsimp only at this; omega)
    (fun _ => rfl) (fun _ _ => rfl), after0_5]
  dsimp only; rw [Nat.sub_add_cancel (by omega : 1 ≤ t.val)]

/-- A window's current staging memref at a point. -/
abbrev ms0 (w : Fin cfg0.W) (t : Fin cfg0.N) := (cfg0.win w).stage (cfg0.slots t w)

/-- What the body is called with at a point, window by window, -/
def bodyPre0 (c : Dev nD) (t : Fin cfg0.N) : sProp 𝕄 :=
  iprop((dat0 V c).Φ t.castSucc ∗ (dat0 V c).owesAt () t.castSucc
    ∗ (∃ d, owns (c : Thread nD τ) (ms0 0 t) fullShare ((dat0 V c).before 0 t d))
    ∗ (∃ d, owns (c : Thread nD τ) (ms0 1 t) fullShare ((dat0 V c).before 1 t d))
    ∗ (∃ d, owns (c : Thread nD τ) (ms0 2 t) fullShare ((dat0 V c).before 2 t d))
    ∗ (∃ d, owns (c : Thread nD τ) (ms0 3 t) fullShare ((dat0 V c).before 3 t d))
    ∗ (∃ d, owns (c : Thread nD τ) (ms0 4 t) fullShare ((dat0 V c).before 4 t d))
    ∗ (∃ d, owns (c : Thread nD τ) (ms0 5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0 0 t) fullShare ((dat0 V c).after 0 t)
    ∗ owns (c : Thread nD τ) (ms0 1 t) fullShare ((dat0 V c).after 1 t)
    ∗ owns (c : Thread nD τ) (ms0 2 t) fullShare ((dat0 V c).after 2 t)
    ∗ owns (c : Thread nD τ) (ms0 3 t) fullShare ((dat0 V c).after 3 t)
    ∗ owns (c : Thread nD τ) (ms0 4 t) fullShare ((dat0 V c).after 4 t)
    ∗ owns (c : Thread nD τ) (ms0 5 t) fullShare ((dat0 V c).after 5 t))

set_option maxHeartbeats 800000 in
/-- The body at any point takes the one to the other. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, accA_succ V c t]
  have hN : t.val < 30 := lt_of_lt_of_eq t.isLt (show cfg0.N = 30 from N_0)
  by_cases h0 : t.val % 30 = 0
  · iintro ⟨HΦ, Ho, ⟨%d0, H0⟩, ⟨%d1, H1⟩, ⟨%d2, H2⟩, ⟨%d3, H3⟩, ⟨%d4, H4⟩, ⟨%d5, H5⟩⟩
    iapply (bodyA_run c (grid0.coords t) (ms0 0 t) _ (ms0 1 t) _ (ms0 2 t) _ (ms0 3 t) _ (ms0 4 t) _ (ms0 5 t) _ (xblk0 V c t) (ublk0 V c t)
      ((dat0 V c).before 2 t d2, (dat0 V c).before 3 t d3, (dat0 V c).before 4 t d4, (dat0 V c).before 5 t d5) (accA V c t.val)
      (fun _ => by rw [show t.val = 0 by omega]; rfl) (fun h => absurd ((firstA_iff t).mpr h0) h) Set.univ _)
    isplitl [H0]; · iexact H0
    isplitl [H1]; · iexact H1
    isplitl [H2]; · iexact H2
    isplitl [H3]; · iexact H3
    isplitl [H4]; · iexact H4
    isplitl [H5]; · iexact H5
    iintro H
    isplitl [HΦ]; · iexact HΦ
    isplitl [Ho]; · iexact Ho
    iexact H
  · simp only [before0_2 V c t h0, before0_3 V c t h0, before0_4 V c t h0, before0_5 V c t h0]
    iintro ⟨HΦ, Ho, ⟨%d0, H0⟩, ⟨%d1, H1⟩, ⟨%d2, H2⟩, ⟨%d3, H3⟩, ⟨%d4, H4⟩, ⟨%d5, H5⟩⟩
    iapply (bodyA_run c (grid0.coords t) (ms0 0 t) _ (ms0 1 t) _ (ms0 2 t) _ (ms0 3 t) _ (ms0 4 t) _ (ms0 5 t) _ (xblk0 V c t) (ublk0 V c t)
      (accA V c t.val) (accA V c t.val) (fun h => absurd ((firstA_iff t).mp h) h0) (fun _ => rfl) Set.univ _)
    isplitl [H0]; · iexact H0
    isplitl [H1]; · iexact H1
    isplitl [H2]; · iexact H2
    isplitl [H3]; · iexact H3
    isplitl [H4]; · iexact H4
    isplitl [H5]; · iexact H5
    iintro H
    isplitl [HΦ]; · iexact HΦ
    isplitl [Ho]; · iexact Ho
    iexact H

/-- The body the first launch calls is the one read off the program. -/
theorem defs₀_row0 (t : Fin cfg0.N) :
    defs₀ (F := F) .tc cfg0.body (cfg0.bodyArgs t (cfg0.slots t)) = bodyAt0 t := by
  unfold defs₀; rw [Defs.onTc_tc]

/-- The pipeline's obligation on its body. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.RegionB.lean ====
/- The second kernel's pipeline: its two input blocks reach past the arrays' ends, so what it leaves is stated up to
   what those parts of the buffers happen to hold. -/
module

public import proofs.«01_k».proof.Proof.Body
public import Idealize.ShloMosaic.Lib.Pipeline.DatRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligationRel)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A window's block at a grid point (the part of it inside the array), read off its array's contents when the kernel is entered. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's whole buffer: its block where the block lies in the array, `d` elsewhere. -/
def buf1 (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (iblk1 V c w t)

/-- The accumulators the second kernel reads. -/
def accB (c : Dev nD) (t : Fin cfg1.N) : Accs F := (iblk1 V c 2 t, iblk1 V c 3 t, iblk1 V c 4 t, iblk1 V c 5 t)

/-- The windows known only up to a property: the two clipped inputs and the two results. -/
def loose1 : Fin cfg1.W → Bool
  | ⟨0, _⟩ => true | ⟨1, _⟩ => true | ⟨2, _⟩ => false | ⟨3, _⟩ => false | ⟨4, _⟩ => false | ⟨5, _⟩ => false | ⟨6, _⟩ => true | ⟨7, _⟩ => true

/-- The property: each result is the body's at some contents of the parts outside the arrays. -/
def left1 (c : Dev nD) : (w : Fin cfg1.W) → Fin cfg1.N → ((cfg1.win w).block.Idx → Elt F (cfg1.win w).elt) → Prop
  | ⟨0, _⟩, _, _ => True
  | ⟨1, _⟩, _, _ => True
  | ⟨2, _⟩, _, _ => True
  | ⟨3, _⟩, _, _ => True
  | ⟨4, _⟩, _, _ => True
  | ⟨5, _⟩, _, _ => True
  | ⟨6, _⟩, t, X => ∃ d0 d1, X = (outB (buf1 V c 0 t d0) (buf1 V c 1 t d1) (accB V c t)).1
  | ⟨7, _⟩, t, X => ∃ d0 d1, X = (outB (buf1 V c 0 t d0) (buf1 V c 1 t d1) (accB V c t)).2

/-- The pipeline's data; a loose window's entry is not looked at. -/
def dat1 (c : Dev nD) : Dat τ (Elt F) Unit ℕ (UR sig nD τ) ℕ cfg1 c where
  A w := V c (Pipeline.arrRef spec1 w)
  after w t := match w with
    | ⟨0, _⟩ => fun _ => Classical.arbitrary _
    | ⟨1, _⟩ => fun _ => Classical.arbitrary _
    | ⟨2, _⟩ => iblk1 V c 2 t
    | ⟨3, _⟩ => iblk1 V c 3 t
    | ⟨4, _⟩ => iblk1 V c 4 t
    | ⟨5, _⟩ => iblk1 V c 5 t
    | ⟨6, _⟩ => fun _ => Classical.arbitrary _
    | ⟨7, _⟩ => fun _ => Classical.arbitrary _
  Φ _ := Pipeline.ΦA spec1 c
  q _ := fullShare
  owed _ := 0

/-- Each window works on its array as the second launch finds it. -/
theorem A_eq1 (c : Dev nD) (w : Fin cfg1.W) : (dat1 V c).A w = V c (Pipeline.arrRef spec1 w) := by
  dsimp only [dat1]

/-- The same as relational data. -/
abbrev rdat1 (c : Dev nD) : RDat τ (Elt F) Unit ℕ (UR sig nD τ) ℕ cfg1 c := (dat1 V c).toRRel loose1 (left1 V c)

/-- After the body the accumulators' windows still hold their blocks: the scores'. -/
theorem after1_2 (c : Dev nD) (t : Fin cfg1.N) : (dat1 V c).after 2 t = iblk1 V c 2 t := by dsimp only [dat1]
/-- The columns'. -/
theorem after1_3 (c : Dev nD) (t : Fin cfg1.N) : (dat1 V c).after 3 t = iblk1 V c 3 t := by dsimp only [dat1]
/-- The logits'. -/
theorem after1_4 (c : Dev nD) (t : Fin cfg1.N) : (dat1 V c).after 4 t = iblk1 V c 4 t := by dsimp only [dat1]
/-- The sums'. -/
theorem after1_5 (c : Dev nD) (t : Fin cfg1.N) : (dat1 V c).after 5 t = iblk1 V c 5 t := by dsimp only [dat1]

/-- Each accumulator's buffer holds its block. -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]) t d).trans
    (by unfold Dat.fetched Dat.blockOf iblk1; rw [A_eq1]; try rfl)
/-- The same of the columns. -/
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]) t d).trans
    (by unfold Dat.fetched Dat.blockOf iblk1; rw [A_eq1]; try rfl)
/-- The same of the logits. -/
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]) t d).trans
    (by unfold Dat.fetched Dat.blockOf iblk1; rw [A_eq1]; try rfl)
/-- The same of the sums. -/
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]) t d).trans
    (by unfold Dat.fetched Dat.blockOf iblk1; rw [A_eq1]; try rfl)

/-- What a clipped input's buffer may hold. -/
theorem finds1 (c : Dev nD) (w : Fin cfg1.W) (t : Fin cfg1.N) (hf : (cfg1.win w).fetch t = true) (Y) :
    (rdat1 V c).Finds w t Y → ∃ d, Y = buf1 V c w t d := fun h => by
  obtain ⟨d, hd⟩ := (RDat.finds_of_fetch (rdat1 V c) hf Y).mp h
  refine ⟨d, hd.trans ?_⟩
  rw [Dat.toRRel_fetched]
  unfold Dat.fetched Dat.blockOf buf1 iblk1; rw [A_eq1]; try rfl

/-- A window's current staging memref at a point. -/
abbrev ms1 (w : Fin cfg1.W) (t : Fin cfg1.N) := (cfg1.win w).stage (cfg1.slots t w)

/-- What the body is called with, window by window, -/
def bodyPre1 (c : Dev nD) (t : Fin cfg1.N) : sProp 𝕄 :=
  iprop((dat1 V c).Φ t.castSucc ∗ (dat1 V c).owesAt () t.castSucc
    ∗ (∃ Y, ⌜(rdat1 V c).Finds 0 t Y⌝ ∗ owns (c : Thread nD τ) (ms1 0 t) fullShare Y)
    ∗ (∃ Y, ⌜(rdat1 V c).Finds 1 t Y⌝ ∗ owns (c : Thread nD τ) (ms1 1 t) fullShare Y)
    ∗ (∃ d, owns (c : Thread nD τ) (ms1 2 t) fullShare ((dat1 V c).before 2 t d))
    ∗ (∃ d, owns (c : Thread nD τ) (ms1 3 t) fullShare ((dat1 V c).before 3 t d))
    ∗ (∃ d, owns (c : Thread nD τ) (ms1 4 t) fullShare ((dat1 V c).before 4 t d))
    ∗ (∃ d, owns (c : Thread nD τ) (ms1 5 t) fullShare ((dat1 V c).before 5 t d))
    ∗ (∃ Y, ⌜(rdat1 V c).Finds 6 t Y⌝ ∗ owns (c : Thread nD τ) (ms1 6 t) fullShare Y)
    ∗ (∃ Y, ⌜(rdat1 V c).Finds 7 t Y⌝ ∗ owns (c : Thread nD τ) (ms1 7 t) fullShare Y))

/-- and what it returns. -/
def bodyPost1 (c : Dev nD) (t : Fin cfg1.N) : sProp 𝕄 :=
  iprop((dat1 V c).Φ t.succ ∗ (dat1 V c).owesAt () t.succ
    ∗ (∃ X, ⌜left1 V c 0 t X⌝ ∗ owns (c : Thread nD τ) (ms1 0 t) fullShare X)
    ∗ (∃ X, ⌜left1 V c 1 t X⌝ ∗ owns (c : Thread nD τ) (ms1 1 t) fullShare X)
    ∗ owns (c : Thread nD τ) (ms1 2 t) fullShare ((dat1 V c).after 2 t)
    ∗ owns (c : Thread nD τ) (ms1 3 t) fullShare ((dat1 V c).after 3 t)
    ∗ owns (c : Thread nD τ) (ms1 4 t) fullShare ((dat1 V c).after 4 t)
    ∗ owns (c : Thread nD τ) (ms1 5 t) fullShare ((dat1 V c).after 5 t)
    ∗ (∃ X, ⌜left1 V c 6 t X⌝ ∗ owns (c : Thread nD τ) (ms1 6 t) fullShare X)
    ∗ (∃ X, ⌜left1 V c 7 t X⌝ ∗ owns (c : Thread nD τ) (ms1 7 t) fullShare X))

set_option maxHeartbeats 800000 in
/-- The body takes the one to the other. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_2, before1_3, before1_4, before1_5]
  rw [show (dat1 V c).Φ t.succ = (dat1 V c).Φ t.castSucc from rfl,
    show (dat1 V c).owesAt () t.succ = (dat1 V c).owesAt () t.castSucc from rfl,
    after1_2, after1_3, after1_4, after1_5]
  iintro ⟨HΦ, Ho, ⟨%x, %hx, H0⟩, ⟨%u, %hu, H1⟩, ⟨%d2, H2⟩, ⟨%d3, H3⟩, ⟨%d4, H4⟩, ⟨%d5, H5⟩, ⟨%d6, -, H6⟩, ⟨%d7, -, H7⟩⟩
  obtain rfl := fin_N1 t
  obtain ⟨d0, rfl⟩ := finds1 V c 0 t1_0 (by decide) x hx
  obtain ⟨d1, rfl⟩ := finds1 V c 1 t1_0 (by decide) u hu
  iapply (bodyB_run c (grid1.coords t1_0) (ms1 0 t1_0) _ (ms1 1 t1_0) _ (ms1 2 t1_0) _ (ms1 3 t1_0) _ (ms1 4 t1_0) _ (ms1 5 t1_0) _ (ms1 6 t1_0) _ (ms1 7 t1_0) _
    (buf1 V c 0 t1_0 d0) (buf1 V c 1 t1_0 d1) (accB V c t1_0) d6 d7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]
  · iexists _; isplitr; swap; · iexact H0
    ipureintro; exact True.intro
  isplitl [H1]
  · iexists _; isplitr; swap; · iexact H1
    ipureintro; exact True.intro
  isplitl [H2]; · iexact H2
  isplitl [H3]; · iexact H3
  isplitl [H4]; · iexact H4
  isplitl [H5]; · iexact H5
  isplitl [H6]
  · iexists _; isplitr; swap; · iexact H6
    ipureintro; exact ⟨d0, d1, rfl⟩
  iexists _; isplitr; swap; · iexact H7
  ipureintro; exact ⟨d0, d1, rfl⟩

/-- The body the second launch calls is the one read off the program. -/
theorem defs₀_row1 (t : Fin cfg1.N) :
    defs₀ (F := F) .tc cfg1.body (cfg1.bodyArgs t (cfg1.slots t)) = bodyAt1 t := by
  unfold defs₀; rw [Defs.onTc_tc]

/-- The pipeline's obligation on its body. -/
theorem body_obligation1 (c : Dev nD) :
    BodyObligationRel (dat1 (F := F) V c) (defs₀ (F := F)) Variants.none () Set.univ loose1 (left1 V c) := fun t => by
  rw [bigSep_W1, bigSep_W1, defs₀_row1]
  exact triple_restated (sound_body1 V c t) rfl .rfl fun _ => .rfl

end Cert.KernelIdeal.Gen

end
-- ==== Proof.Run.lean ====
/- The whole program: the two kernels and the host's last step, run from any launch memory, with what the buffers hold at
   the end. -/
module

public import proofs.«01_k».proof.Proof.RegionA
public import proofs.«01_k».proof.Proof.RegionB
public import proofs.«01_k».proof.Proof.Gen.KernelIdeal.Regions
public import Idealize.ShloMosaic.Lib.Pipeline.RegionsLoop
public import Idealize.ShloMosaic.Lib.Pipeline.FrameSuffix
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- The same, read off one core. -/
abbrev E0 : (c : Dev nD) → (b : Ref sig .tc) → Buf (Elt F) ((c : Thread nD τ).loc b) := fun c b => W0 m ρ c b

/-- After the first kernel. -/
def W1 (c : Dev nD) : Valuation τ sig (Elt F) :=
  Pipeline.withArrays spec0 c (W0 m ρ c) fun w => (dat0 (E0 m ρ) c).arrAt w cfg0.N
/-- The same, read off one core. -/
abbrev E1 : (c : Dev nD) → (b : Ref sig .tc) → Buf (Elt F) ((c : Thread nD τ).loc b) := fun c b => W1 m ρ c b
/-- It holds each window's array as the first launch leaves it. -/
theorem W1_arr (c : Dev nD) (w : Fin cfg0.W) :
    W1 m ρ c (Proc.devRef .tc (Pipeline.arrRef spec0 w)) = (dat0 (E0 m ρ) c).arrAt w cfg0.N := by
  unfold W1; exact Pipeline.withArrays_arr spec0 launch0.win.arr_inj c _ _ w
/-- Every other buffer is as it was. -/
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

/-- Some contents of the second kernel's arrays. -/
abbrev Arrs1 (c : Dev nD) : Type := (w : Fin cfg1.W) → Buf (Elt F) ((cfg1.win w).arr.view.loc (c.tc : Thread nD τ))
/-- The contents it may leave in them. -/
abbrev Ends1 (c : Dev nD) (A : Arrs1 (F := F) c) : Prop := ∀ w, (rdat1 (E1 m ρ) c).ArrAt w cfg1.N (A w)

/-- After the second kernel, its arrays at `A`. -/
def W2 (c : Dev nD) (A : Arrs1 (F := F) c) : Valuation τ sig (Elt F) := Pipeline.withArrays spec1 c (W1 m ρ c) A
/-- It holds each window's array as the second launch leaves it. -/
theorem W2_arr (c : Dev nD) (A : Arrs1 (F := F) c) (w : Fin cfg1.W) :
    W2 m ρ c A (Proc.devRef .tc (Pipeline.arrRef spec1 w)) = A w := by
  unfold W2; exact Pipeline.withArrays_arr spec1 launch1.win.arr_inj c _ _ w
/-- Every other buffer is as it was. -/
theorem W2_of_ne (c : Dev nD) (A : Arrs1 (F := F) c) (b : Ref sig .tc) (hb : ∀ w, Pipeline.arrRef spec1 w ≠ b) :
    W2 m ρ c A (Proc.devRef .tc b) = W1 m ρ c (Proc.devRef .tc b) := by
  unfold W2; exact Pipeline.withArrays_of_ne spec1 c _ _ b hb

/-- At the end. -/
abbrev W3 (c : Dev nD) (A : Arrs1 (F := F) c) : Valuation τ sig (Elt F) := StableHlo.after hostOps2 (W2 m ρ c A)
/-- A buffer the host steps do not write is as it was. -/
theorem W3_of (c : Dev nD) (A : Arrs1 (F := F) c) (r : Ref sig .tc) (h : r ∉ hostOps2_W) :
    W3 m ρ c A (Proc.devRef .tc r) = W2 m ρ c A (Proc.devRef .tc r) :=
  StableHlo.after_of_writes_sub hostOps2 _ hostOps2_writes h

/-! ## The regions' records -/

/-- The two pipelines' data. -/
def rdats : (p : Fin 2) → (c : Dev nD) → RDat τ (Elt F) Unit ℕ (UR sig nD τ) ℕ (Pipeline.pin (pcfgs (F := F)) adm p) c
  | ⟨0, _⟩ => fun c => (dat0 (E0 m ρ) c).toR
  | ⟨1, _⟩ => fun c => rdat1 (E1 m ρ) c
/-- The exact data of the same arrays. -/
def edats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c

/-- No loop of the program needs a variant. -/
abbrev 𝒱₀ : Variants := Variants.none
/-- No counter carries a promise, -/
abbrev L : GSem nD τ sig → Finset Unit := fun _ => ∅
/-- nor a level. -/
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)

/-- The thread's state with every unscoped buffer at given contents. -/
abbrev at' (W : Dev nD → Valuation τ sig (Elt F)) (c : Dev nD) : sProp 𝕄 :=
  iprop(StableHlo.held (c : Thread nD τ) (Pipeline.ucRefs τ sig) (W c) ∗ R c)

/-- The thread's state after the second kernel, and after the host's last step. -/
abbrev after1 (c : Dev nD) : sProp 𝕄 :=
  iprop(∃ A, ⌜Ends1 m ρ c A⌝ ∗ StableHlo.held (c : Thread nD τ) (Pipeline.ucRefs τ sig) (W2 m ρ c A) ∗ R c)
/-- What holds after the host steps. -/
abbrev after2 (c : Dev nD) : sProp 𝕄 :=
  iprop(∃ A, ⌜Ends1 m ρ c A⌝ ∗ StableHlo.held (c : Thread nD τ) (Pipeline.ucRefs τ sig) (W3 m ρ c A) ∗ R c)

set_option backward.isDefEq.respectTransparency.types false in
/-- The first kernel, from the launch contents to `W1`. -/
def reg0 : RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose.toR
  hwaits := RDat.hwaits_of_owed_zero _ _ _ _ L lv 0 fun _ _ => rfl
  pre := at' (W0 m ρ)
  post := at' (W1 m ρ)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := RDat.arrays_of_unscopedBufs (p := 0) (pcfgs (F := F)) adm (rdats m ρ) launch0.win launch0.arr_whole c
      ((edats m ρ 0 c).share_full fun _ => rfl) (E0 m ρ c) (A_eq0 (E0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (edats m ρ) ((edats m ρ 0 c).share_full fun _ => rfl)
      (E0 m ρ c) (E1 m ρ c) ((dat0 (E0 m ρ) c).arrAt · cfg0.N) (fun w => (W1_arr m ρ c w).symm)
      (fun b hb => W1_of_ne m ρ c b fun w e => hb (Finset.mem_image.mpr ⟨w, Finset.mem_univ _, e⟩))
    rw [Pipeline.unscopedBufs_held] at hjoin
    have harr : (rdats m ρ 0 c).arraysAt cfg0.N ⊢ ((dat0 (E0 m ρ) c).arrays ((dat0 (E0 m ρ) c).arrAt · cfg0.N) : sProp 𝕄) :=
      (dat0 (E0 m ρ) c).toR_arraysAt_post cfg0.N
    iintro ⟨Ha, HO, HY, Hrest⟩
    ihave Ha := harr $$ Ha
    imodintro
    isplitl [Ha Hrest]
    · iapply hjoin
      isplitl [Ha]; · iexact Ha
      iexact Hrest
    isplitl [HY]; · iexact HY
    unfold RDat.owesAt Pipeline.owesWithin
    icases HO with ⟨%W, -, HO⟩; iexists W; iexact HO

set_option backward.isDefEq.respectTransparency.types false in
/-- The second kernel, from `W1` to `W2` at some contents it may leave. -/
def reg1 : RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).toRRel
  hwaits := RDat.hwaits_of_owed_zero _ _ _ _ L lv 1 fun _ _ => rfl
  pre := at' (W1 m ρ)
  post := after1 m ρ
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := RDat.arrays_of_unscopedBufs (p := 1) (pcfgs (F := F)) adm (rdats m ρ) launch1.win launch1.arr_whole c
      ((edats m ρ 1 c).share_full fun _ => rfl) (E1 m ρ c) (A_eq1 (E1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : ∀ A : Arrs1 (F := F) c, iprop((dat1 (E1 m ρ) c).arrays A ∗ Pipeline.unscopedRest spec1 c (E1 m ρ c))
        ⊢ (StableHlo.held (c : Thread nD τ) (Pipeline.ucRefs τ sig) (W2 m ρ c A) : sProp 𝕄) := fun A => by
      have h := Pipeline.unscopedBufs_of_arrays (p := 1) (pcfgs (F := F)) adm (Ix := Unit) (Name := ℕ) (U := UR sig nD τ) (Lvl := ℕ)
        launch1.win launch1.arr_whole c (edats m ρ) ((edats m ρ 1 c).share_full fun _ => rfl)
        (E1 m ρ c) (fun b => W2 m ρ c A b) A (fun w => (W2_arr m ρ c A w).symm)
        (fun b hb => W2_of_ne m ρ c A b fun w e => hb (Finset.mem_image.mpr ⟨w, Finset.mem_univ _, e⟩))
      rw [Pipeline.unscopedBufs_held] at h
      exact h
    have harr : (rdats m ρ 1 c).arraysAt cfg1.N
        ⊢ (iprop(∃ A, ⌜Ends1 m ρ c A⌝ ∗ (dat1 (E1 m ρ) c).arrays A) : sProp 𝕄) := by
      show ((rdat1 (E1 m ρ) c).arraysAt cfg1.N : sProp 𝕄) ⊢ _
      unfold RDat.arraysAt Dat.arrays
      refine (BI.bigSep_exists_pi Finset.univ _).trans ?_
      iintro ⟨%A, H⟩
      ihave H' := (BI.bigSep_pure_sep Finset.univ (fun w => (rdat1 (E1 m ρ) c).ArrAt w cfg1.N (A w)) _) $$ H
      icases H' with ⟨%hA, H⟩
      iexists A
      isplitr
      · ipureintro; exact fun w => hA w (Finset.mem_univ w)
      iexact H
    iintro ⟨Ha, HO, HY, Hrest⟩
    ihave Ha := harr $$ Ha
    icases Ha with ⟨%A, %hA, Ha⟩
    imodintro
    iexists A
    isplitr; · ipureintro; exact hA
    isplitl [Ha Hrest]
    · iapply (hjoin A); isplitl [Ha] <;> iassumption
    isplitl [HY]; · iexact HY
    unfold RDat.owesAt Pipeline.owesWithin
    icases HO with ⟨%W, -, HO⟩; iexists W; iexact HO

set_option backward.isDefEq.respectTransparency.types false in
/-- The host's last step. -/
def host2 : Pipeline.HostSeg (Ix := Unit) (Name := ℕ) (U := UR sig nD τ) (pcfgs (F := F)) defs₀ 𝒱₀ L lv where
  prog := StableHlo.seq hostOps2
  pre := after1 m ρ
  post := after2 m ρ
  run c {β} k K := by
    iintro ⟨Hk, Hbd, ⟨%A, %hA, Hh, HR⟩, -⟩
    have hseq := StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) (W2 m ρ c A)
    iapply hseq $$ [Hbd Hh]
    · isplitl [Hbd] <;> iassumption
    iintro ⟨Hbd, Hh⟩
    iapply Hk
    isplitl [Hbd]; · iexact Hbd
    iexists A
    isplitr; · ipureintro; exact hA
    isplitl [Hh] <;> iassumption

/-! ## The run -/

/-- The program's three parts. -/
abbrev parts : List (RDat.Seg (pcfgs (F := F)) adm (rdats m ρ) () defs₀ 𝒱₀ L lv) :=
  [.region (reg0 m ρ), .region (reg1 m ρ), .host (host2 m ρ)]
/-- The main function is its parts run in order. -/
theorem main_run (c : Dev nD) : main (F := F) c = RDat.Seg.run (parts m ρ) := (main_chain c).trans (by chain_rfl)

/-- A buffer that lasts the whole run is among those held through it. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every execution ends, every counter at zero, each core's unscoped buffers at `W3` of some contents the second kernel may leave. -/
theorem run_all : θ_run defs (onTc (τ := τ) (main (F := F))) ⟨m, fun _ => 0, ρ⟩ (fun r => (∀ c : Dev nD,
      ∃ A, Ends1 m ρ c A ∧ ∀ b ∈ Pipeline.ucRefs τ sig, r.2.mem ((c : Thread nD τ).1, b) = W3 m ρ c A b)
      ∧ r.2.sem = fun _ => 0) :=
  RDat.θ_run_regions_kit_sems (pcfgs (F := F)) adm (rdats m ρ) () cellOf_inj emb₁ defs₀ 𝒱₀ L lv m ρ main (parts m ρ)
    (fun c Q => by rw [main_run m ρ c])
    (by simp only [parts, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := at' (W0 m ρ))
    (Tₙ := fun c => iprop(∃ A, ⌜Ends1 m ρ c A⌝ ∗ StableHlo.held (c : Thread nD τ) (Pipeline.ucRefs τ sig) (W3 m ρ c A)))
    (hch := ⟨fun _ => .rfl, fun _ => .rfl, fun _ => .rfl, fun c => by
      dsimp only [RDat.Seg.post, host2]
      iintro ⟨%A, %hA, Hh, -, HO⟩
      isplitl [Hh]
      · iexists A
        isplitr; · ipureintro; exact hA
        iexact Hh
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ A, Ends1 m ρ c A ∧ ∀ b ∈ Pipeline.ucRefs τ sig, s.mem (((c : Thread nD τ)).1, b) = W3 m ρ c A b)
    (hfin := fun c s' => by
      iintro ⟨⟨%A, %hA, Hh⟩, HSI⟩
      unfold StableHlo.held
      ihave Hr := (pointsTo_read_all (Pipeline.ucRefs τ sig) (fun b => (((c : Thread nD τ)).1, b)) (W3 m ρ c A) s') $$ [Hh HSI]
      · isplitl [Hh] <;> iassumption
      icases Hr with ⟨%h, HSI⟩
      imodintro
      isplitr
      · ipureintro; exact ⟨A, hA, h⟩
      iexact HSI)
    (hQ := fun s h hz => ⟨h, funext fun g => hz g (.inr (regions_no_unscoped g.2))⟩)

/-! ## The arguments -/

/-- The first launch leaves the logits as they were. -/
theorem W1_main_arg0 (c : Dev nD) : W1 m ρ c (Proc.devRef .tc main_arg0) = m ((c : Thread nD τ).loc main_arg0) :=
  (W1_arr m ρ c 0).trans (((dat0 (E0 m ρ) c).arrAt_in 0 rfl _).trans (A_eq0 (E0 m ρ) c 0))
/-- The same of the second argument. -/
theorem W1_main_arg1 (c : Dev nD) : W1 m ρ c (Proc.devRef .tc main_arg1) = m ((c : Thread nD τ).loc main_arg1) :=
  (W1_arr m ρ c 1).trans (((dat0 (E0 m ρ) c).arrAt_in 1 rfl _).trans (A_eq0 (E0 m ρ) c 1))

/-- The second kernel leaves an input's array as it was. -/
theorem Ends1.input {c : Dev nD} {A : Arrs1 (F := F) c} (h : Ends1 m ρ c A) (w : Fin cfg1.W) (hw : (cfg1.win w).isOut = false) :
    A w = W1 m ρ c (Proc.devRef .tc (Pipeline.arrRef spec1 w)) := by
  have h' := h w
  rw [RDat.ArrAt_in (rdat1 (E1 m ρ) c) w hw] at h'
  exact h'.trans (A_eq1 (E1 m ρ) c w)

/-- At the end the logits are as launched. -/
theorem W3_main_arg0 (c : Dev nD) (A : Arrs1 (F := F) c) (h : Ends1 m ρ c A) :
    W3 m ρ c A (Proc.devRef .tc main_arg0) = m ((c : Thread nD τ).loc main_arg0) :=
  (W3_of m ρ c A main_arg0 (by decide)).trans ((W2_arr m ρ c A 0).trans ((h.input m ρ 0 rfl).trans (W1_main_arg0 m ρ c)))
/-- The same of the second argument. -/
theorem W3_main_arg1 (c : Dev nD) (A : Arrs1 (F := F) c) (h : Ends1 m ρ c A) :
    W3 m ρ c A (Proc.devRef .tc main_arg1) = m ((c : Thread nD τ).loc main_arg1) :=
  (W3_of m ρ c A main_arg1 (by decide)).trans ((W2_arr m ρ c A 1).trans ((h.input m ρ 1 rfl).trans (W1_main_arg1 m ρ c)))

/-- Every execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => by
    obtain ⟨A, hA, hr⟩ := h.1 c
    exact ⟨(hr _ (mem_uc main_arg0 (by decide))).trans (W3_main_arg0 m ρ c A hA),
      (hr _ (mem_uc main_arg1 (by decide))).trans (W3_main_arg1 m ρ c A hA)⟩, h.2⟩) (run_all m ρ)

end Cert.KernelIdeal.Gen

end
-- ==== Proof.RefRun.lean ====
/-
The reference's run. Its main function is one list of host operations; run in order they end with the two
results below, the arguments unchanged. The results are built of four named stages: the perturbed scores,
their arg-max, the log-softmax, and the selection of one entry per row.
-/
module

public import proofs.«01_k».proof.Proof.Gen.ReferenceIdeal
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The operations of the main function in order, a called function's in its call's place. -/
abbrev ops : List (HloOp τ sig (Elt F)) :=
  [ nullary main_cst (constant S_ .f32 0x2EDBE6FF#32),
    unary main_cst main_v0 (broadcastInDim S32x1000000 ![] bcast_S_S32x1000000 : (⟨S_, .f32⟩ : BufTy).Contents (Elt F) → (⟨S32x1000000, .f32⟩ : BufTy).Contents (Elt F)),
    binary main_arg1 main_v0 main_v1 (addf : (⟨S32x1000000, .f32⟩ : BufTy).Contents (Elt F) → (⟨S32x1000000, .f32⟩ : BufTy).Contents (Elt F) → (⟨S32x1000000, .f32⟩ : BufTy).Contents (Elt F)),
    unary main_v1 main_v2 (Host.log : (⟨S32x1000000, .f32⟩ : BufTy).Contents (Elt F) → (⟨S32x1000000, .f32⟩ : BufTy).Contents (Elt F)),
    unary main_v2 main_v3 (Host.negf : (⟨S32x1000000, .f32⟩ : BufTy).Contents (Elt F) → (⟨S32x1000000, .f32⟩ : BufTy).Contents (Elt F)),
    nullary main_cst_0 (constant S_ .f32 0x2EDBE6FF#32),
    unary main_cst_0 main_v4 (broadcastInDim S32x1000000 ![] bcast_S_S32x1000000 : (⟨S_, .f32⟩ : BufTy).Contents (Elt F) → (⟨S32x1000000, .f32⟩ : BufTy).Contents (Elt F)),
    binary main_v3 main_v4 main_v5 (addf : (⟨S32x1000000, .f32⟩ : BufTy).Contents (Elt F) → (⟨S32x1000000, .f32⟩ : BufTy).Contents (Elt F) → (⟨S32x1000000, .f32⟩ : BufTy).Contents (Elt F)),
    unary main_v5 main_v6 (Host.log : (⟨S32x1000000, .f32⟩ : BufTy).Contents (Elt F) → (⟨S32x1000000, .f32⟩ : BufTy).Contents (Elt F)),
    unary main_v6 main_v7 (Host.negf : (⟨S32x1000000, .f32⟩ : BufTy).Contents (Elt F) → (⟨S32x1000000, .f32⟩ : BufTy).Contents (Elt F)),
    nullary main_cst_1 (constant S_ .f32 0x3F800000#32),
    unary main_cst_1 main_v8 (broadcastInDim S32x1000000 ![] bcast_S_S32x1000000 : (⟨S_, .f32⟩ : BufTy).Contents (Elt F) → (⟨S32x1000000, .f32⟩ : BufTy).Contents (Elt F)),
    binary main_arg0 main_v8 main_v9 (Host.divf : (⟨S32x1000000, .f32⟩ : BufTy).Contents (Elt F) → (⟨S32x1000000, .f32⟩ : BufTy).Contents (Elt F) → (⟨S32x1000000, .f32⟩ : BufTy).Contents (Elt F)),
    binary main_v9 main_v7 main_v10 (addf : (⟨S32x1000000, .f32⟩ : BufTy).Contents (Elt F) → (⟨S32x1000000, .f32⟩ : BufTy).Contents (Elt F) → (⟨S32x1000000, .f32⟩ : BufTy).Contents (Elt F)),
    TRef.nullary (TRef.of (T := ⟨S32x1000000, .i32⟩) main_call0_v0) (iotaInDim S32x1000000 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S32x1000000, .f32⟩) main_v10) (TRef.of (T := ⟨S32x1000000, .i32⟩) main_call0_v0) (TRef.of (T := ⟨S_, .f32⟩) main_call0_cst) (TRef.of (T := ⟨S_, .i32⟩) main_call0_c) (TRef.of (T := ⟨S32, .f32⟩) main_call0_v1_0) (fun x y u v j => (Host.argReduce reducer_argmax_f32_i32 x y u v reducesTo_S32x1000000_S32_d1 h_S_ j).1),
    TRef.quaternary (TRef.of (T := ⟨S32x1000000, .f32⟩) main_v10) (TRef.of (T := ⟨S32x1000000, .i32⟩) main_call0_v0) (TRef.of (T := ⟨S_, .f32⟩) main_call0_cst) (TRef.of (T := ⟨S_, .i32⟩) main_call0_c) (TRef.of (T := ⟨S32, .i32⟩) main_v11) (fun x y u v j => (Host.argReduce reducer_argmax_f32_i32 x y u v reducesTo_S32x1000000_S32_d1 h_S_ j).2),
    TRef.nullary (TRef.of (T := ⟨S_, .f32⟩) main_call1_cst) (constant S_ .f32 0xFF800000#32),
    TRef.binary (TRef.of (T := ⟨S32x1000000, .f32⟩) main_v9) (TRef.of (T := ⟨S_, .f32⟩) main_call1_cst) (TRef.of (T := ⟨S32, .f32⟩) main_call1_v0) (fun x v => Host.reduce FloatOps.maximumf x v reducesTo_S32x1000000_S32_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S32, .f32⟩) main_call1_v1) (broadcastInDim S32 ![] bcast_S_S32),
    TRef.binary (TRef.of (T := ⟨S32, .f32⟩) main_call1_v1) (TRef.of (T := ⟨S32, .f32⟩) main_call1_v0) (TRef.of (T := ⟨S32, .f32⟩) main_call1_v2) maximumf,
    TRef.unary (TRef.of (T := ⟨S32, .f32⟩) main_call1_v2) (TRef.of (T := ⟨S32x1, .f32⟩) main_call1_v3) (broadcastInDim S32x1 ![0] bcast_S32_S32x1_0),
    TRef.unary (TRef.of (T := ⟨S32x1, .f32⟩) main_call1_v3) (TRef.of (T := ⟨S32x1000000, .f32⟩) main_call1_v4) (broadcastInDim S32x1000000 ![0, 1] bcast_S32x1_S32x1000000_0_1),
    TRef.binary (TRef.of (T := ⟨S32x1000000, .f32⟩) main_v9) (TRef.of (T := ⟨S32x1000000, .f32⟩) main_call1_v4) (TRef.of (T := ⟨S32x1000000, .f32⟩) main_call1_v5) subf,
    TRef.unary (TRef.of (T := ⟨S32x1000000, .f32⟩) main_call1_v5) (TRef.of (T := ⟨S32x1000000, .f32⟩) main_call1_v6) Host.exp,
    TRef.nullary (TRef.of (T := ⟨S_, .f32⟩) main_call1_cst_1) (constant S_ .f32 0x00000000#32),
    TRef.binary (TRef.of (T := ⟨S32x1000000, .f32⟩) main_call1_v6) (TRef.of (T := ⟨S_, .f32⟩) main_call1_cst_1) (TRef.of (T := ⟨S32, .f32⟩) main_call1_v7) (fun x v => Host.reduceAdd x v reducesTo_S32x1000000_S32_d1 h_S_),
    TRef.unary (TRef.of (T := ⟨S32, .f32⟩) main_call1_v7) (TRef.of (T := ⟨S32x1, .f32⟩) main_call1_v8) (broadcastInDim S32x1 ![0] bcast_S32_S32x1_0),
    TRef.unary (TRef.of (T := ⟨S32x1, .f32⟩) main_call1_v8) (TRef.of (T := ⟨S32x1, .f32⟩) main_call1_v9) Host.log,
    TRef.unary (TRef.of (T := ⟨S32x1, .f32⟩) main_call1_v9) (TRef.of (T := ⟨S32x1000000, .f32⟩) main_call1_v10) (broadcastInDim S32x1000000 ![0, 1] bcast_S32x1_S32x1000000_0_1),
    TRef.binary (TRef.of (T := ⟨S32x1000000, .f32⟩) main_call1_v5) (TRef.of (T := ⟨S32x1000000, .f32⟩) main_call1_v10) (TRef.of (T := ⟨S32x1000000, .f32⟩) main_v12) subf,
    unary main_v11 main_v13 (broadcastInDim S32x1 ![0] bcast_S32_S32x1_0 : (⟨S32, .i32⟩ : BufTy).Contents (Elt F) → (⟨S32x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S32x1, .i32⟩) main_call2_v0) (broadcastInDim S32x1 ![] bcast_S_S32x1),
    TRef.binary (TRef.of (T := ⟨S32x1, .i32⟩) main_v13) (TRef.of (T := ⟨S32x1, .i32⟩) main_call2_v0) (TRef.of (T := ⟨S32x1, .i1⟩) main_call2_v1) (cmpi .slt),
    TRef.nullary (TRef.of (T := ⟨S_, .i32⟩) main_call2_c_0) (constantI S_ 32 1000000#32),
    TRef.unary (TRef.of (T := ⟨S_, .i32⟩) main_call2_c_0) (TRef.of (T := ⟨S32x1, .i32⟩) main_call2_v2) (broadcastInDim S32x1 ![] bcast_S_S32x1),
    TRef.binary (TRef.of (T := ⟨S32x1, .i32⟩) main_v13) (TRef.of (T := ⟨S32x1, .i32⟩) main_call2_v2) (TRef.of (T := ⟨S32x1, .i32⟩) main_call2_v3) addi,
    TRef.ternary (TRef.of (T := ⟨S32x1, .i1⟩) main_call2_v1) (TRef.of (T := ⟨S32x1, .i32⟩) main_call2_v3) (TRef.of (T := ⟨S32x1, .i32⟩) main_v13) (TRef.of (T := ⟨S32x1, .i32⟩) main_call2_v4) select,
    TRef.reshape (TRef.of (T := ⟨S32x1, .i32⟩) main_call2_v4) (TRef.of (T := ⟨S32x1x1, .i32⟩) main_call2_v5) (rfl : (.i32 : EltTy) = .i32) shapeCasts_S32x1_S32x1x1,
    TRef.nullary (TRef.of (T := ⟨S1, .i32⟩) main_call2_c_1) (constantI S1 32 999999#32),
    TRef.nullary (TRef.of (T := ⟨S_, .i32⟩) main_call2_c_2) (constantI S_ 32 0#32),
    TRef.unary (TRef.of (T := ⟨S_, .i32⟩) main_call2_c_2) (TRef.of (T := ⟨S32x1x1, .i32⟩) main_call2_v6) (broadcastInDim S32x1x1 ![] bcast_S_S32x1x1),
    TRef.binary (TRef.of (T := ⟨S32x1x1, .i32⟩) main_call2_v5) (TRef.of (T := ⟨S32x1x1, .i32⟩) main_call2_v6) (TRef.of (T := ⟨S32x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S32x1x1, .i32⟩) main_call2_v9) (broadcastInDim S32x1x1 ![0, 1, 2] bcast_S1x1x1_S32x1x1_0_1_2),
    TRef.binary (TRef.of (T := ⟨S32x1x1, .i32⟩) main_call2_v5) (TRef.of (T := ⟨S32x1x1, .i32⟩) main_call2_v9) (TRef.of (T := ⟨S32x1x1, .i1⟩) main_call2_v10) (cmpi .sle),
    TRef.binary (TRef.of (T := ⟨S32x1x1, .i1⟩) main_call2_v7) (TRef.of (T := ⟨S32x1x1, .i1⟩) main_call2_v10) (TRef.of (T := ⟨S32x1x1, .i1⟩) main_call2_v11) andi,
    TRef.nullary (TRef.of (T := ⟨S_, .i1⟩) main_call2_c_3) (constantI S_ 1 1#1),
    TRef.binary (TRef.of (T := ⟨S32x1x1, .i1⟩) main_call2_v11) (TRef.of (T := ⟨S_, .i1⟩) main_call2_c_3) (TRef.of (T := ⟨S32x1, .i1⟩) main_call2_v12) (fun x v => Host.reduce IntOp.andi x v reducesTo_S32x1x1_S32x1_d2 h_S_),
    TRef.binary (TRef.of (T := ⟨S32x1000000, .f32⟩) main_v12) (TRef.of (T := ⟨S32x1x1, .i32⟩) main_call2_v5) (TRef.of (T := ⟨S32x1, .f32⟩) main_call2_v13) (fun x i => Host.gather gather_S32x1000000_S32x1x1_S32x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S32x1, .f32⟩) main_call2_v14) (broadcastInDim S32x1 ![] bcast_S_S32x1),
    TRef.ternary (TRef.of (T := ⟨S32x1, .i1⟩) main_call2_v12) (TRef.of (T := ⟨S32x1, .f32⟩) main_call2_v13) (TRef.of (T := ⟨S32x1, .f32⟩) main_call2_v14) (TRef.of (T := ⟨S32x1, .f32⟩) main_v14) select ]

set_option maxRecDepth 8192 in
/-- The main function is its operations in order. -/
theorem main_eq (c : Dev nD) : main (F := F) c = seq ops := rfl
/-- The program has no buffer of a limited life, -/
theorem scopedRefs_eq : (Finset.univ.filter fun b : Ref sig .tc => b.isScoped) = ∅ := by decide
/-- and no such counter. -/
theorem scopedSems_eq : (Finset.univ.filter fun sm : SemLoc sig => sm.isScoped .tc) = ∅ := by decide
set_option maxRecDepth 8192 in
/-- Its operations touch only the buffers a run holds. -/
theorem ops_sub : (ops : List (HloOp τ sig (Elt F))).Forall fun op => op.bufs ⊆ tcRefs τ sig :=
  ⟨nullary_bufs_sub .., unary_bufs_sub .., binary_bufs_sub .., unary_bufs_sub .., unary_bufs_sub .., nullary_bufs_sub .., unary_bufs_sub .., binary_bufs_sub .., unary_bufs_sub .., unary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-! ## The results -/

/-- The logits over the temperature, which is one. -/
def scaled (x : Vec F S32x1000000 .f32) : Vec F S32x1000000 .f32 :=
  Host.divf x (broadcastInDim S32x1000000 ![] bcast_S_S32x1000000 (constant S_ .f32 0x3F800000#32))
/-- The small constant, everywhere. -/
def epsAll : Vec F S32x1000000 .f32 := broadcastInDim S32x1000000 ![] bcast_S_S32x1000000 (constant S_ .f32 0x2EDBE6FF#32)
/-- The perturbed scores. -/
def scores (x u : Vec F S32x1000000 .f32) : Vec F S32x1000000 .f32 :=
  addf (scaled x) (Host.negf (Host.log (addf (Host.negf (Host.log (addf u epsAll))) epsAll)))
/-- The second components of an array of pairs. -/
def seconds {α β : Type} {s : Shape} (p : s.Idx → α × β) : s.Idx → β := fun j => (p j).2
/-- A second component is read off the pair. -/
theorem seconds_eq {α β : Type} {s : Shape} {p : s.Idx → α × β} {j : s.Idx} {w : α × β} (h : p j = w) : seconds p j = w.2 :=
  congrArg Prod.snd h
/-- The arg-max of each row. -/
def argmaxOf (s : Vec F S32x1000000 .f32) : Vec F S32 .i32 :=
  seconds (Host.argReduce reducer_argmax_f32_i32 s (iotaInDim S32x1000000 32 1) (constant S_ .f32 0xFF800000#32) (constantI S_ 32 0#32)
    reducesTo_S32x1000000_S32_d1 h_S_)
/-- The largest entry of each row. -/
def rowMax (x : Vec F S32x1000000 .f32) : Vec F S32 .f32 :=
  Host.reduce FloatOps.maximumf x (constant S_ .f32 0xFF800000#32) reducesTo_S32x1000000_S32_d1 h_S_
/-- The sum of each row's exponentials. -/
def rowSum (x : Vec F S32x1000000 .f32) : Vec F S32 .f32 :=
  Host.reduceAdd (Host.exp x) (constant S_ .f32 0x00000000#32) reducesTo_S32x1000000_S32_d1 h_S_
/-- Each row minus its maximum. -/
def shifted (x : Vec F S32x1000000 .f32) : Vec F S32x1000000 .f32 :=
  subf x (broadcastInDim S32x1000000 ![0, 1] bcast_S32x1_S32x1000000_0_1 (broadcastInDim S32x1 ![0] bcast_S32_S32x1_0
    (maximumf (broadcastInDim S32 ![] bcast_S_S32 (constant S_ .f32 0xFF800000#32)) (rowMax x))))
/-- The log of the sum of each row's exponentials. -/
def logSum (x : Vec F S32x1000000 .f32) : Vec F S32x1 .f32 :=
  Host.log (broadcastInDim S32x1 ![0] bcast_S32_S32x1_0 (rowSum x))
/-- The log-softmax of each row. -/
def logSoftmax (x : Vec F S32x1000000 .f32) : Vec F S32x1000000 .f32 :=
  subf (shifted x) (broadcastInDim S32x1000000 ![0, 1] bcast_S32x1_S32x1000000_0_1 (logSum (shifted x)))
/-- A column index made non-negative, as an index vector per row. -/
def wrapped (i : Vec F S32x1 .i32) : Vec F S32x1x1 .i32 :=
  shapeCast S32x1x1 (select (cmpi .slt i (broadcastInDim S32x1 ![] bcast_S_S32x1 (constantI S_ 32 0#32)))
    (addi i (broadcastInDim S32x1 ![] bcast_S_S32x1 (constantI S_ 32 1000000#32))) i) shapeCasts_S32x1_S32x1x1
/-- Whether that index lies in the row. -/
def inRow (i : Vec F S32x1x1 .i32) : Vec F S32x1 .i1 :=
  Host.reduce IntOp.andi (andi (cmpi .sge i (broadcastInDim S32x1x1 ![] bcast_S_S32x1x1 (constantI S_ 32 0#32)))
    (cmpi .sle i (broadcastInDim S32x1x1 ![0, 1, 2] bcast_S1x1x1_S32x1x1_0_1_2 (broadcastInDim S1x1x1 ![2] bcast_S1_S1x1x1_2 (constantI S1 32 999999#32)))))
    (constantI S_ 1 1#1) reducesTo_S32x1x1_S32x1_d2 h_S_
/-- One entry per row, the one at that row's index. -/
def takeOf (x : Vec F S32x1000000 .f32) (i : Vec F S32x1 .i32) : Vec F S32x1 .f32 :=
  select (inRow (F := F) (wrapped i)) (Host.gather gather_S32x1000000_S32x1x1_S32x1_n_1_0_0_1_2_11 x (wrapped (F := F) i))
    (broadcastInDim S32x1 ![] bcast_S_S32x1 (constant S_ .f32 0x7FC00000#32))

/-- The first result: the sampled column of each row. -/
def out0 (x u : Vec F S32x1000000 .f32) : Vec F S32 .i32 := argmaxOf (scores x u)
/-- The second result: its log-probability. -/
def out1 (x u : Vec F S32x1000000 .f32) : Vec F S32x1 .f32 :=
  takeOf (logSoftmax (scaled x)) (broadcastInDim S32x1 ![0] bcast_S32_S32x1_0 (out0 x u))

set_option maxRecDepth 8192 in
set_option maxHeartbeats 2000000 in
/-- Every execution ends with the two results at the stages' values of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = out0 (m ((c.tc : Thread nD τ).loc main_arg0)) (m ((c.tc : Thread nD τ).loc main_arg1))
      ∧ r.2.mem ((c.tc : Thread nD τ).loc main_v14) = out1 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v11).trans (by simp only [ops, TRef.binary, TRef.nullary, TRef.reshape, TRef.ternary, TRef.quaternary, TRef.unary, TRef.toBuf, TRef.ofBuf, cast_eq]; after_results_simp <;> rfl),
      (h c main_v14).trans (by simp only [ops, TRef.binary, TRef.nullary, TRef.reshape, TRef.ternary, TRef.quaternary, TRef.unary, TRef.toBuf, TRef.ofBuf, cast_eq]; after_results_simp <;> rfl),
      (h c main_arg0).trans (by simp only [ops, TRef.binary, TRef.nullary, TRef.reshape, TRef.ternary, TRef.quaternary, TRef.unary, TRef.toBuf, TRef.ofBuf, cast_eq]; after_results_simp <;> rfl),
      (h c main_arg1).trans (by simp only [ops, TRef.binary, TRef.nullary, TRef.reshape, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Value

end
-- ==== Proof.Lanes.lean ====
/-
One row of the sampler, as arithmetic on the extended reals. A row's columns are dealt to 128 lanes, column
`128 k + l` to lane `l`; each lane keeps its largest score, the first column that has it, the logit there, and a sum.
`pick` says that reducing the lanes gives the row's first column of largest score and the logit at it, and
`lane_total` that the lanes' sums add up to the row's.
-/
module

public import Mathlib.Data.EReal.Operations
public import Mathlib.Algebra.BigOperators.Fin
public import Mathlib.Data.Finset.Lattice.Fold
public import Mathlib.Data.Finset.Max
public import Mathlib.Tactic.Linarith

@[expose] public section

noncomputable section

namespace Cert.Lanes

/-- What a lane keeps: the largest score, its column, its logit, and the running sum. -/
structure Lane where
  s : EReal
  c : EReal
  x : EReal
  e : EReal

/-- A lane meets one more column. -/
def Lane.step (p : Lane) (s c x e : EReal) : Lane :=
  ⟨if p.s < s then s else p.s, if p.s < s then c else p.c, if p.s < s then x else p.x, p.e + e⟩

/-- A column number as an extended real. -/
abbrev num (n : ℕ) : EReal := ((n : ℝ) : EReal)

variable (S X E : ℕ → EReal)

/-- Lane `l` after its first `n` columns. -/
def lane (l : ℕ) : ℕ → Lane
  | 0 => ⟨⊥, 0, 0, 0⟩
  | n + 1 => (lane l n).step (S (128 * n + l)) (num (128 * n + l)) (X (128 * n + l)) (E (128 * n + l))

/-- No score met so far exceeds the lane's. -/
theorem lane_le (l : ℕ) : ∀ n, ∀ k < n, S (128 * k + l) ≤ (lane S X E l n).s := by
  intro n
  induction n with
  | zero => intro k hk; omega
  | succ n ih =>
    intro k hk
    simp only [lane, Lane.step]
    rcases Nat.lt_succ_iff_lt_or_eq.mp hk with h | rfl
    · split_ifs with hc
      · exact (ih k h).trans hc.le
      · exact ih k h
    · split_ifs with hc
      · exact le_rfl
      · exact not_lt.mp hc

/-- The lane's score, column and logit are those of the first column met that has the largest score. -/
theorem lane_first (l : ℕ) (h0 : ⊥ < S l) : ∀ n, 0 < n → ∃ k < n, (lane S X E l n).s = S (128 * k + l)
    ∧ (lane S X E l n).c = num (128 * k + l) ∧ (lane S X E l n).x = X (128 * k + l) ∧ ∀ j < k, S (128 * j + l) < S (128 * k + l) := by
  intro n hn
  induction n with
  | zero => omega
  | succ n ih =>
    rcases Nat.eq_zero_or_pos n with rfl | hp
    · refine ⟨0, Nat.one_pos, ?_⟩
      simp only [lane, Lane.step, Nat.mul_zero, Nat.zero_add, if_pos h0]
      exact ⟨trivial, trivial, trivial, fun j hj => absurd hj (Nat.not_lt_zero j)⟩
    · obtain ⟨k, hk, hs, hc, hx, hj⟩ := ih hp
      by_cases hlt : (lane S X E l n).s < S (128 * n + l)
      · refine ⟨n, Nat.lt_succ_self n, ?_⟩
        simp only [lane, Lane.step, if_pos hlt]
        exact ⟨trivial, trivial, trivial, fun j hj => (lane_le S X E l n j hj).trans_lt hlt⟩
      · refine ⟨k, Nat.lt_succ_of_lt hk, ?_⟩
        simp only [lane, Lane.step, if_neg hlt]
        exact ⟨hs, hc, hx, hj⟩

/-- The lane's sum is the sum over its columns. -/
theorem lane_sum (l n : ℕ) : (lane S X E l n).e = ∑ k ∈ Finset.range n, E (128 * k + l) := by
  induction n with
  | zero => rfl
  | succ n ih => rw [Finset.sum_range_succ, ← ih]; rfl

/-- Summing by lanes and then by columns of a lane is summing over the columns. -/
theorem sum_lanes (n : ℕ) : ∑ l : Fin 128, ∑ k ∈ Finset.range n, E (128 * k + l.val) = ∑ c ∈ Finset.range (128 * n), E c := by
  induction n with
  | zero => simp
  | succ n ih =>
    rw [Nat.mul_succ, Finset.sum_range_add, ← ih, ← Fin.sum_univ_eq_sum_range (fun x => E (128 * n + x)) 128, ← Finset.sum_add_distrib]
    exact Finset.sum_congr rfl fun l _ => Finset.sum_range_succ _ _

/-- The lanes' sums add up to the row's, when nothing past the row counts. -/
theorem lane_total (N : ℕ) (hN : 1000000 ≤ 128 * N) (hE : ∀ c, 1000000 ≤ c → E c = 0) :
    ∑ l : Fin 128, (lane S X E l.val N).e = ∑ c : Fin 1000000, E c.val := by
  simp only [lane_sum]
  rw [sum_lanes, Fin.sum_univ_eq_sum_range E 1000000]
  refine (Finset.sum_subset (Finset.range_mono hN) fun c _ hc => hE c ?_).symm
  simpa using hc

/-- `a` is the row's first column of largest score. -/
def First (a : ℕ) : Prop := a < 1000000 ∧ (∀ j, S j ≤ S a) ∧ ∀ j < a, S j < S a

/-- The largest score over the lanes. -/
def top (N : ℕ) : EReal := Finset.univ.sup fun l : Fin 128 => (lane S X E l.val N).s

/-- The lanes reduced: some column is the first of largest score, it is the least among the lanes that have the largest score, and
    it is in one lane only, so that the logit there is the one picked. -/
theorem pick (N : ℕ) (hN : 1000000 ≤ 128 * N) (hS : ∀ c < 1000000, ⊥ < S c) (hS' : ∀ c, 1000000 ≤ c → S c = ⊥) (big : EReal) (hbig : num 1000000 ≤ big) :
    ∃ a, First S a
      ∧ (Finset.univ.inf fun l : Fin 128 => if (lane S X E l.val N).s = top S X E N then (lane S X E l.val N).c else big) = num a
      ∧ (Finset.univ.sup fun l : Fin 128 => if (lane S X E l.val N).c = num a then (lane S X E l.val N).x else ⊥) = X a := by
  have key : ∀ l : Fin 128, ∃ k, (lane S X E l.val N).s = S (128 * k + l.val)
      ∧ (lane S X E l.val N).c = num (128 * k + l.val) ∧ (lane S X E l.val N).x = X (128 * k + l.val)
      ∧ ∀ j < k, S (128 * j + l.val) < S (128 * k + l.val) := fun l => by
    obtain ⟨k, -, h⟩ := lane_first S X E l.val (hS _ (by omega)) N (by omega)
    exact ⟨k, h⟩
  choose k hs hc hx hk using key
  obtain ⟨l₁, -, h₁⟩ := Finset.exists_mem_eq_sup (Finset.univ : Finset (Fin 128)) ⟨0, Finset.mem_univ _⟩ fun l : Fin 128 => (lane S X E l.val N).s
  obtain ⟨l₀, hl₀, hmin⟩ := Finset.exists_min_image (Finset.univ.filter fun l : Fin 128 => (lane S X E l.val N).s = top S X E N)
    (fun l => 128 * k l + l.val) ⟨l₁, Finset.mem_filter.mpr ⟨Finset.mem_univ _, h₁.symm⟩⟩
  have htop : (lane S X E l₀.val N).s = top S X E N := (Finset.mem_filter.mp hl₀).2
  have hSa : S (128 * k l₀ + l₀.val) = top S X E N := (hs l₀).symm.trans htop
  have hle : ∀ j, S j ≤ top S X E N := fun j => by
    by_cases hj : j < 128 * N
    · have h := lane_le S X E (j % 128) N (j / 128) (by omega)
      rw [Nat.div_add_mod j 128] at h
      exact h.trans (Finset.le_sup (f := fun l : Fin 128 => (lane S X E l.val N).s) (Finset.mem_univ (⟨j % 128, Nat.mod_lt _ (by norm_num)⟩ : Fin 128)))
    · rw [hS' j (hN.trans (not_lt.mp hj))]; exact bot_le
  have hpos : ⊥ < top S X E N := (hS 0 (by norm_num)).trans_le (hle 0)
  have ha : 128 * k l₀ + l₀.val < 1000000 := by
    by_contra h
    exact hpos.ne' (hSa.symm.trans (hS' _ (not_lt.mp h)))
  have num_inj : ∀ {m n : ℕ}, num m = num n → m = n := fun h => by exact_mod_cast h
  refine ⟨128 * k l₀ + l₀.val, ⟨ha, fun j => (hle j).trans hSa.ge, fun j hj => ?_⟩, le_antisymm ?_ ?_, le_antisymm ?_ ?_⟩
  · refine lt_of_le_of_ne ((hle j).trans hSa.ge) fun he => ?_
    have hj' : S j = top S X E N := he.trans hSa
    let l : Fin 128 := ⟨j % 128, Nat.mod_lt _ (by norm_num)⟩
    have hjd : 128 * (j / 128) + l.val = j := Nat.div_add_mod j 128
    have h₂ : (lane S X E l.val N).s = top S X E N := by
      refine le_antisymm (Finset.le_sup (f := fun l : Fin 128 => (lane S X E l.val N).s) (Finset.mem_univ l)) ?_
      have h := lane_le S X E l.val N (j / 128) (by omega)
      rw [hjd, hj'] at h
      exact h
    have h₃ := hmin l (Finset.mem_filter.mpr ⟨Finset.mem_univ l, h₂⟩)
    have h₄ : ¬ j / 128 < k l := fun hlt => by
      have h := hk l _ hlt
      rw [hjd, hj', ← hs l, h₂] at h
      exact lt_irrefl _ h
    omega
  · refine (Finset.inf_le (Finset.mem_univ l₀)).trans ?_
    rw [if_pos htop, hc l₀]
  · refine Finset.le_inf fun l _ => ?_
    split_ifs with h
    · rw [hc l]
      have := hmin l (Finset.mem_filter.mpr ⟨Finset.mem_univ l, h⟩)
      exact EReal.coe_le_coe_iff.mpr (Nat.cast_le.mpr this)
    · exact (EReal.coe_le_coe_iff.mpr (Nat.cast_le.mpr ha.le)).trans hbig
  · refine Finset.sup_le fun l _ => ?_
    split_ifs with h
    · rw [hc l] at h
      have h' := num_inj h
      rw [hx l, h']
    · exact bot_le
  · refine le_trans ?_ (Finset.le_sup (f := fun l : Fin 128 => if (lane S X E l.val N).c = num (128 * k l₀ + l₀.val) then (lane S X E l.val N).x else ⊥) (Finset.mem_univ l₀))
    simp only [if_pos (hc l₀), hx l₀, le_refl]

/-- The first column of largest score is one column. -/
theorem First.unique {a b : ℕ} (ha : First S a) (hb : First S b) : a = b := by
  rcases lt_trichotomy a b with h | h | h
  · exact absurd (hb.2.2 a h) (not_lt.mpr (ha.2.1 b))
  · exact h
  · exact absurd (ha.2.2 b h) (not_lt.mpr (hb.2.1 a))

end Cert.Lanes

end
-- ==== Proof.Scores.lean ====
/-
# A row's scores, logits and terms

The three quantities a column of a row contributes, over the extended reals, as functions of the column's number, and the
identity between the two ways of taking the logarithm of a sum of exponentials.
-/
module

public import proofs.«01_k».proof.Proof.Lanes
public import Idealize.ShloMosaic.PureOps.Ideal.Laws
public import Idealize.ShloMosaic.Lib.Pointwise

@[expose] public section

noncomputable section

namespace Cert.Lanes

open Idealize.ShloMosaic

/-- Minus infinity. -/
theorem ofBits_bot : Ideal.ofBits .f32 0xFF800000#32 = ⊥ := by simp [Ideal.ofBits, Ideal.ieee]
/-- Zero. -/
theorem ofBits_nil : Ideal.ofBits .f32 0x00000000#32 = 0 := by simp [Ideal.ofBits, Ideal.ieee]

/-- The small number added inside both logarithms. -/
def eps : EReal := Ideal.ofBits .f32 0x2EDBE6FF#32

/-- The perturbed logit of one column. -/
def score (x u : EReal) : EReal := x - Ideal.log (0 - Ideal.log (u + eps) + eps)

/-- A column's term of the sum of exponentials. -/
def term (x : EReal) : EReal := Ideal.exp (x - ((16 : ℝ) : EReal))

/-- An argument: 32 rows of a million columns. -/
abbrev Rows := (⟨2, ![32, 1000000]⟩ : Shape).Idx → EReal

/-- A row's scores, logits and terms by column number, with nothing past the last column. -/
def rowS (x u : Rows) (r : Fin 32) (n : ℕ) : EReal :=
  if h : n < 1000000 then score (x (ix2 r ⟨n, h⟩)) (u (ix2 r ⟨n, h⟩)) else ⊥
/-- A row's logits. -/
def rowX (x : Rows) (r : Fin 32) (n : ℕ) : EReal :=
  if h : n < 1000000 then x (ix2 r ⟨n, h⟩) else 0
/-- A row's terms. -/
def rowE (x : Rows) (r : Fin 32) (n : ℕ) : EReal :=
  if h : n < 1000000 then term (x (ix2 r ⟨n, h⟩)) else 0

/-- What a row's two results are, from the arguments: the first column of largest score, and its logit less the logarithm
    of the row's sum of exponentials. -/
def RowResult (x u : Rows) (r : Fin 32) (idx : BitVec 32) (logp : EReal) : Prop :=
  ∃ a, First (rowS x u r) a ∧ idx = BitVec.ofNat 32 a
    ∧ logp = rowX x r a - (((16 : ℝ) : EReal) + Ideal.log (∑ j : Fin 1000000, rowE x r j.val))

/-- A row's results are determined by the arguments. -/
theorem RowResult.unique {x u : Rows} {r : Fin 32} {i i' : BitVec 32} {p p' : EReal} (h : RowResult x u r i p) (h' : RowResult x u r i' p') :
    i = i' ∧ p = p' := by
  obtain ⟨a, ha, rfl, rfl⟩ := h
  obtain ⟨b, hb, rfl, rfl⟩ := h'
  rw [First.unique _ ha hb]
  exact ⟨rfl, rfl⟩

/-- The sum of finitely many reals, as extended reals. -/
theorem coe_sum {n : ℕ} (f : Fin n → ℝ) : (∑ k, ((f k : ℝ) : EReal)) = ((∑ k, f k : ℝ) : EReal) :=
  (map_sum (⟨⟨fun r : ℝ => (r : EReal), rfl⟩, fun a b => EReal.coe_add a b⟩ : ℝ →+ EReal) f Finset.univ).symm

/-- An exponential is not negative. -/
theorem exp_nonneg (x : EReal) : 0 ≤ Ideal.exp x := by
  induction x with
  | bot => exact le_refl _
  | top => exact le_top
  | coe r => exact EReal.coe_nonneg.mpr (Real.exp_pos r).le

/-- Shifting by the row's largest logit or by sixteen, the log-probability is the same. -/
theorem logsum {n : ℕ} (X : Fin n → EReal) (hX : ∀ k, ⊥ < X k) (a : Fin n) :
    (X a - Finset.univ.sup X) - Ideal.log (∑ k, Ideal.exp (X k - Finset.univ.sup X))
      = X a - (((16 : ℝ) : EReal) + Ideal.log (∑ k, term (X k))) := by
  by_cases ht : ∃ k, X k = ⊤
  · obtain ⟨k, hk⟩ := ht
    have hM : Finset.univ.sup X = ⊤ := top_le_iff.mp (hk ▸ Finset.le_sup (Finset.mem_univ k))
    have h1 : ∀ j, X j - ⊤ = ⊥ := fun j => by rw [sub_eq_add_neg, EReal.neg_top, EReal.add_bot]
    have h2 : ∑ j, term (X j) = ⊤ := by
      refine top_le_iff.mp ?_
      have h3 : term (X k) = ⊤ := by rw [term, hk, EReal.top_sub_coe]; rfl
      rw [← h3]
      exact Finset.single_le_sum (f := fun j => term (X j)) (fun j _ => exp_nonneg _) (Finset.mem_univ k)
    rw [hM, h1, h2, show Ideal.log ⊤ = ⊤ from rfl, EReal.coe_add_top, h1, sub_eq_add_neg, EReal.bot_add]
  · push Not at ht
    have hr : ∀ k, ∃ f : ℝ, X k = (f : EReal) := fun k => ⟨(X k).toReal, (EReal.coe_toReal (ht k) (hX k).ne').symm⟩
    choose f hf using hr
    obtain ⟨b, -, hb⟩ := Finset.exists_mem_eq_sup (Finset.univ : Finset (Fin n)) ⟨a, Finset.mem_univ a⟩ X
    rw [hb]
    have hpos : 0 < ∑ k, Real.exp (f k - f b) := Finset.sum_pos (fun k _ => Real.exp_pos _) ⟨a, Finset.mem_univ a⟩
    have hpos' : 0 < ∑ k, Real.exp (f k - 16) := Finset.sum_pos (fun k _ => Real.exp_pos _) ⟨a, Finset.mem_univ a⟩
    have e1 : ∀ k, Ideal.exp (X k - X b) = ((Real.exp (f k - f b) : ℝ) : EReal) := fun k => by
      rw [hf k, hf b, ← EReal.coe_sub]; rfl
    have e2 : ∀ k, term (X k) = ((Real.exp (f k - 16) : ℝ) : EReal) := fun k => by
      rw [term, hf k, ← EReal.coe_sub]; rfl
    have l : ∀ s : ℝ, 0 < s → Ideal.log (s : EReal) = ((Real.log s : ℝ) : EReal) := fun s hs => by
      show (if s ≤ 0 then ⊥ else ((Real.log s : ℝ) : EReal)) = _
      rw [if_neg (not_le.mpr hs)]
    have e3 : ∑ k, Real.exp (f k - 16) = Real.exp (f b - 16) * ∑ k, Real.exp (f k - f b) := by
      rw [Finset.mul_sum]
      refine Finset.sum_congr rfl fun k _ => ?_
      rw [← Real.exp_add]; congr 1; ring
    simp only [e1, e2]
    rw [coe_sum, coe_sum, l _ hpos, l _ hpos', hf a, hf b, ← EReal.coe_sub, ← EReal.coe_sub, ← EReal.coe_add, ← EReal.coe_sub, e3,
      Real.log_mul (Real.exp_pos _).ne' hpos.ne', Real.log_exp]
    congr 1; ring

end Cert.Lanes
-- ==== Proof.Steps.lean ====
/-
# The kernel's chunk steps over the extended reals, one element at a time

What one trip of either kernel's loop does to the accumulators at one row and one lane is one
`Lane.step`: the lane meets the score of its column, the column's number, its logit and the
column's term of the sum of exponentials.
-/
module

public import proofs.«01_k».proof.Proof.Chunks
public import proofs.«01_k».proof.Proof.Scores

@[expose] public section

namespace Cert.KernelIdeal.Gen

open Idealize.ShloMosaic
open Cert.Lanes

/-- The shift, sixteen. -/
theorem ofBits_16 : Ideal.ofBits .f32 0x41800000#32 = ((16 : ℝ) : EReal) := by
  simp [Ideal.ofBits, Ideal.ieee, -EReal.coe_mul]; norm_num
/-- The number of lanes. -/
theorem ofBits_128 : Ideal.ofBits .f32 0x43000000#32 = ((128 : ℝ) : EReal) := by
  simp [Ideal.ofBits, Ideal.ieee, -EReal.coe_mul]; norm_num
/-- The number of columns. -/
theorem ofBits_million : Ideal.ofBits .f32 0x49742400#32 = ((1000000 : ℝ) : EReal) := by
  simp [Ideal.ofBits, Ideal.ieee, -EReal.coe_mul]; norm_num
/-- The second kernel's first column. -/
theorem ofBits_start : Ideal.ofBits .f32 0x49700000#32 = ((983040 : ℝ) : EReal) := by
  simp [Ideal.ofBits, Ideal.ieee, -EReal.coe_mul]; norm_num
/-- The column number of a lane that does not count. -/
theorem ofBits_big : Ideal.ofBits .f32 0x4F000000#32 = ((2147483648 : ℝ) : EReal) := by
  simp [Ideal.ofBits, Ideal.ieee, -EReal.coe_mul]; norm_num
/-- Plus infinity. -/
theorem ofBits_top : Ideal.ofBits .f32 0x7F800000#32 = ⊤ := by
  simp [Ideal.ofBits, Ideal.ieee]

/-- A selection by a truth value written as a bit. -/
theorem select_bit {α : Type} (p : Prop) [Decidable p] (a b : α) :
    Scalar.select (BitVec.ofBool (decide p)) a b = if p then a else b := by
  by_cases h : p <;> simp [Scalar.select, h]

/-- The accumulators at one row and lane. -/
def at4 (a : Accs Ideal) (i : S32x128.Idx) : Lane := ⟨a.1 i, a.2.1 i, a.2.2.1 i, a.2.2.2 i⟩

/-- The initial accumulators are the empty lane's. -/
theorem at4_init (i : S32x128.Idx) : at4 initA i = ⟨⊥, 0, 0, 0⟩ := by
  have h1 : (initA (F := Ideal)).1 i = Ideal.ofBits .f32 0xFF800000#32 := rfl
  have h2 : (initA (F := Ideal)).2.1 i = Ideal.ofBits .f32 0x00000000#32 := rfl
  have h3 : (initA (F := Ideal)).2.2.1 i = Ideal.ofBits .f32 0x00000000#32 := rfl
  have h4 : (initA (F := Ideal)).2.2.2 i = Ideal.ofBits .f32 0x00000000#32 := rfl
  rw [at4, h1, h2, h3, h4, ofBits_bot, ofBits_nil]

/-- The score the first kernel computes. -/
theorem pay10_at (x u : Vec Ideal S32x128 .f32) (i : S32x128.Idx) : k0_pay10 x u i = score (x i) (u i) := by
  have h : k0_pay10 x u i = x i - Ideal.log (Ideal.ofBits .f32 0x00000000#32 - Ideal.log (u i + eps) + eps) := rfl
  rw [h, ofBits_nil, score]

/-- One trip of the first kernel's loop is one step of the lane. -/
theorem stepA_at (x u : Vec Ideal S32x32768 .f32) (k : Fin k0_t1_loop.trips) (a : Carry Ideal) (i : S32x128.Idx) :
    at4 (stepA x u k a).accs i
      = (at4 a.accs i).step (score (chunkA x k i) (chunkA u k i)) (a.2.2.2.2 i) (chunkA x k i) (term (chunkA x k i)) := by
  have h1 : (stepA x u k a).accs.1 i = Scalar.select (BitVec.ofBool (decide (a.1 i < k0_pay10 (chunkA x k) (chunkA u k) i)))
      (k0_pay10 (chunkA x k) (chunkA u k) i) (a.1 i) := rfl
  have h2 : (stepA x u k a).accs.2.1 i = Scalar.select (BitVec.ofBool (decide (a.1 i < k0_pay10 (chunkA x k) (chunkA u k) i)))
      (a.2.2.2.2 i) (a.2.1 i) := rfl
  have h3 : (stepA x u k a).accs.2.2.1 i = Scalar.select (BitVec.ofBool (decide (a.1 i < k0_pay10 (chunkA x k) (chunkA u k) i)))
      (chunkA x k i) (a.2.2.1 i) := rfl
  have h4 : (stepA x u k a).accs.2.2.2 i = a.2.2.2.1 i + Ideal.exp (chunkA x k i - Ideal.ofBits .f32 0x41800000#32) := rfl
  rw [at4, h1, h2, h3, h4, select_bit, select_bit, select_bit, pay10_at, ofBits_16]
  rfl

/-- The first kernel's column numbers move on by the chunk's width. -/
theorem stepA_col (x u : Vec Ideal S32x32768 .f32) (k : Fin k0_t1_loop.trips) (a : Carry Ideal) (i : S32x128.Idx) (n l : ℕ)
    (h : a.2.2.2.2 i = num (128 * n + l)) : (stepA x u k a).2.2.2.2 i = num (128 * (n + 1) + l) := by
  have h5 : (stepA x u k a).2.2.2.2 i = a.2.2.2.2 i + Ideal.ofBits .f32 0x43000000#32 := rfl
  rw [h5, h, ofBits_128, num, num, ← EReal.coe_add]
  congr 1; push_cast; ring

/-- A column number is below a million as an extended real exactly when it is as a number. -/
theorem num_lt_million (n : ℕ) : num n < ((1000000 : ℝ) : EReal) ↔ n < 1000000 := by
  rw [num, EReal.coe_lt_coe_iff]; exact_mod_cast Iff.rfl

/-- The score the second kernel computes: none past the last column. -/
theorem pay7_at (c x u : Vec Ideal S32x128 .f32) (i : S32x128.Idx) (n : ℕ) (h : c i = num n) :
    k1_pay7 c x u i = if n < 1000000 then score (x i) (u i) else ⊥ := by
  have h7 : k1_pay7 c x u i = Scalar.select (BitVec.ofBool (decide (c i < Ideal.ofBits .f32 0x49742400#32)))
      (x i - Ideal.log (Ideal.ofBits .f32 0x00000000#32 - Ideal.log (u i + eps) + eps)) (Ideal.ofBits .f32 0xFF800000#32) := rfl
  rw [h7, select_bit, ofBits_nil, ofBits_bot, ofBits_million, h]
  simp only [num_lt_million]
  rfl

/-- One trip of the second kernel's loop is one step of the lane, with nothing past the last column. -/
theorem stepB_at (x u : Vec Ideal S32x32768 .f32) (k : Fin k1_t1_loop.trips) (a : Carry Ideal) (i : S32x128.Idx) (n : ℕ)
    (h : a.2.2.2.2 i = num n) :
    at4 (stepB x u k a).accs i
      = (at4 a.accs i).step (if n < 1000000 then score (chunkB x k i) (chunkB u k i) else ⊥) (num n) (chunkB x k i)
          (if n < 1000000 then term (chunkB x k i) else 0) := by
  have h1 : (stepB x u k a).accs.1 i = Scalar.select (BitVec.ofBool (decide (a.1 i < k1_pay7 a.2.2.2.2 (chunkB x k) (chunkB u k) i)))
      (k1_pay7 a.2.2.2.2 (chunkB x k) (chunkB u k) i) (a.1 i) := rfl
  have h2 : (stepB x u k a).accs.2.1 i = Scalar.select (BitVec.ofBool (decide (a.1 i < k1_pay7 a.2.2.2.2 (chunkB x k) (chunkB u k) i)))
      (a.2.2.2.2 i) (a.2.1 i) := rfl
  have h3 : (stepB x u k a).accs.2.2.1 i = Scalar.select (BitVec.ofBool (decide (a.1 i < k1_pay7 a.2.2.2.2 (chunkB x k) (chunkB u k) i)))
      (chunkB x k i) (a.2.2.1 i) := rfl
  have h4 : (stepB x u k a).accs.2.2.2 i = a.2.2.2.1 i
      + Scalar.select (BitVec.ofBool (decide (a.2.2.2.2 i < Ideal.ofBits .f32 0x49742400#32)))
          (Ideal.exp (chunkB x k i - Ideal.ofBits .f32 0x41800000#32)) (Ideal.ofBits .f32 0x00000000#32) := rfl
  rw [at4, h1, h2, h3, h4, select_bit, select_bit, select_bit, select_bit, pay7_at _ _ _ _ n h, ofBits_16, ofBits_nil, ofBits_million, h]
  simp only [num_lt_million]
  rfl

/-- The second kernel's column numbers move on by the chunk's width. -/
theorem stepB_col (x u : Vec Ideal S32x32768 .f32) (k : Fin k1_t1_loop.trips) (a : Carry Ideal) (i : S32x128.Idx) (n l : ℕ)
    (h : a.2.2.2.2 i = num (128 * n + l)) : (stepB x u k a).2.2.2.2 i = num (128 * (n + 1) + l) := by
  have h5 : (stepB x u k a).2.2.2.2 i = a.2.2.2.2 i + Ideal.ofBits .f32 0x43000000#32 := rfl
  rw [h5, h, ofBits_128, num, num, ← EReal.coe_add]
  congr 1; push_cast; ring

/-- The loops have 256 trips each. -/
theorem tripsA : k0_t1_loop.trips = 256 := by decide +kernel
/-- The same of the second kernel. -/
theorem tripsB : k1_t1_loop.trips = 256 := by decide +kernel

/-- The element of a chunk is the block's. -/
theorem offA : ∀ k : Fin k0_t1_loop.trips, k0_off1 k = ![0, 128 * k.val] := by decide +kernel
/-- The same of the second kernel. -/
theorem offB : ∀ k : Fin k1_t1_loop.trips, k1_off1 k = ![0, 128 * k.val] := by decide +kernel

/-- An entry of a chunk of the first kernel's block. -/
theorem chunkA_at (x : Vec Ideal S32x32768 .f32) (k : Fin k0_t1_loop.trips) (r : Fin 32) (l : Fin 128) :
    chunkA x k (ix2 r l) = x (ix2 r ⟨128 * k.val + l.val, by have := k.isLt; have := tripsA; omega⟩) := by
  unfold chunkA
  rw [View.ld_apply]
  congr 1
  funext a
  apply Fin.ext
  have e := congrFun (offA k) a
  fin_cases a
  · show k0_off1 k 0 + 1 * r.val = r.val
    rw [show k0_off1 k 0 = 0 from e]; omega
  · show k0_off1 k 1 + 1 * l.val = 128 * k.val + l.val
    rw [show k0_off1 k 1 = 128 * k.val from e]; omega

/-- The same of the second kernel. -/
theorem chunkB_at (x : Vec Ideal S32x32768 .f32) (k : Fin k1_t1_loop.trips) (r : Fin 32) (l : Fin 128) :
    chunkB x k (ix2 r l) = x (ix2 r ⟨128 * k.val + l.val, by have := k.isLt; have := tripsB; omega⟩) := by
  unfold chunkB
  rw [View.ld_apply]
  congr 1
  funext a
  apply Fin.ext
  have e := congrFun (offB k) a
  fin_cases a
  · show k1_off1 k 0 + 1 * r.val = r.val
    rw [show k1_off1 k 0 = 0 from e]; omega
  · show k1_off1 k 1 + 1 * l.val = 128 * k.val + l.val
    rw [show k1_off1 k 1 = 128 * k.val from e]; omega

/-- The column numbers the first kernel starts a block with. -/
theorem pay5_at (i : grid0.Coords) (r : Fin 32) (l : Fin 128) :
    k0_pay5 (F := Ideal) i (ix2 r l) = num (128 * (256 * (i 0).val) + l.val) := by
  have h : k0_pay5 (F := Ideal) i (ix2 r l) = (((BitVec.ofNat 32 (0 * 128 + l.val)).toInt : ℝ) : EReal)
      + (((BitVec.ofNat 32 (i 0).val * 32768#32).toInt : ℝ) : EReal) := rfl
  have hi : (i 0).val < 30 := (i 0).isLt
  have hl := l.isLt
  have e1 : (BitVec.ofNat 32 (0 * 128 + l.val)).toInt = (l.val : ℤ) := by
    rw [BitVec.toInt_eq_toNat_of_lt] <;> simp only [BitVec.toNat_ofNat] <;> omega
  have e2 : (BitVec.ofNat 32 (i 0).val * 32768#32).toInt = (((i 0).val * 32768 : ℕ) : ℤ) := by
    rw [BitVec.toInt_eq_toNat_of_lt] <;> simp only [BitVec.toNat_mul, BitVec.toNat_ofNat] <;> omega
  rw [h, e1, e2, num, ← EReal.coe_add]
  congr 1; push_cast; ring

/-- The column numbers the second kernel starts with. -/
theorem pay1_at (r : Fin 32) (l : Fin 128) : k1_pay1 (F := Ideal) (ix2 r l) = num (128 * 7680 + l.val) := by
  have h : k1_pay1 (F := Ideal) (ix2 r l) = (((BitVec.ofNat 32 (0 * 128 + l.val)).toInt : ℝ) : EReal) + Ideal.ofBits .f32 0x49700000#32 := rfl
  have hl := l.isLt
  have e1 : (BitVec.ofNat 32 (0 * 128 + l.val)).toInt = (l.val : ℤ) := by
    rw [BitVec.toInt_eq_toNat_of_lt] <;> simp only [BitVec.toNat_ofNat] <;> omega
  rw [h, e1, ofBits_start, num, ← EReal.coe_add]
  congr 1; push_cast; ring

section Fold
variable (S X E : ℕ → EReal) (x u : Vec Ideal S32x32768 .f32) (r : Fin 32)

/-- The first kernel's loop over a block takes the lanes on by the block's columns. -/
theorem foldA_at (l : Fin 128) (n₀ : ℕ) (a : Carry Ideal)
    (hx : ∀ q : Fin 32768, X (128 * n₀ + q.val) = x (ix2 r q))
    (hS : ∀ q : Fin 32768, S (128 * n₀ + q.val) = score (x (ix2 r q)) (u (ix2 r q)))
    (hE : ∀ q : Fin 32768, E (128 * n₀ + q.val) = term (x (ix2 r q)))
    (ha : at4 a.accs (ix2 r l) = lane S X E l n₀) (hc : a.2.2.2.2 (ix2 r l) = num (128 * n₀ + l.val)) :
    ∀ k ≤ 256, at4 (foldA x u a k).accs (ix2 r l) = lane S X E l (n₀ + k)
      ∧ (foldA x u a k).2.2.2.2 (ix2 r l) = num (128 * (n₀ + k) + l.val) := by
  intro k
  induction k with
  | zero => exact fun _ => ⟨ha, hc⟩
  | succ k ih =>
    intro hk
    obtain ⟨h1, h2⟩ := ih (by omega)
    have ht : k < k0_t1_loop.trips := by rw [tripsA]; omega
    have e : foldA x u a (k + 1) = stepA x u ⟨k, ht⟩ (foldA x u a k) := by rw [foldA, dif_pos ht]
    rw [e]
    refine ⟨?_, stepA_col x u ⟨k, ht⟩ _ _ _ _ h2⟩
    have hq : 128 * (n₀ + k) + l.val = 128 * n₀ + (128 * k + l.val) := by ring
    have hl := l.isLt
    have q1 := hx ⟨128 * k + l.val, by omega⟩
    have q2 := hS ⟨128 * k + l.val, by omega⟩
    have q3 := hE ⟨128 * k + l.val, by omega⟩
    dsimp only at q1 q2 q3
    rw [stepA_at, h1, h2, chunkA_at, chunkA_at, ← Nat.add_assoc, lane, hq, q1, q2, q3]

/-- The second kernel's loop likewise; past the last column its block may hold anything. -/
theorem foldB_at (l : Fin 128) (n₀ : ℕ) (a : Carry Ideal)
    (hx : ∀ q : Fin 32768, 128 * n₀ + q.val < 1000000 → X (128 * n₀ + q.val) = x (ix2 r q))
    (hS : ∀ q : Fin 32768, S (128 * n₀ + q.val) = if 128 * n₀ + q.val < 1000000 then score (x (ix2 r q)) (u (ix2 r q)) else ⊥)
    (hE : ∀ q : Fin 32768, E (128 * n₀ + q.val) = if 128 * n₀ + q.val < 1000000 then term (x (ix2 r q)) else 0)
    (ha : at4 a.accs (ix2 r l) = lane S X E l n₀) (hc : a.2.2.2.2 (ix2 r l) = num (128 * n₀ + l.val)) :
    ∀ k ≤ 256, at4 (foldB x u a k).accs (ix2 r l) = lane S X E l (n₀ + k)
      ∧ (foldB x u a k).2.2.2.2 (ix2 r l) = num (128 * (n₀ + k) + l.val) := by
  intro k
  induction k with
  | zero => exact fun _ => ⟨ha, hc⟩
  | succ k ih =>
    intro hk
    obtain ⟨h1, h2⟩ := ih (by omega)
    have ht : k < k1_t1_loop.trips := by rw [tripsB]; omega
    have e : foldB x u a (k + 1) = stepB x u ⟨k, ht⟩ (foldB x u a k) := by rw [foldB, dif_pos ht]
    rw [e]
    refine ⟨?_, stepB_col x u ⟨k, ht⟩ _ _ _ _ h2⟩
    have hq : 128 * (n₀ + k) + l.val = 128 * n₀ + (128 * k + l.val) := by ring
    have hl := l.isLt
    have q1 := hx ⟨128 * k + l.val, by omega⟩
    have q2 := hS ⟨128 * k + l.val, by omega⟩
    have q3 := hE ⟨128 * k + l.val, by omega⟩
    dsimp only at q1 q2 q3
    rw [stepB_at _ _ _ _ _ _ h2, h1, chunkB_at, chunkB_at, ← Nat.add_assoc, lane, hq, q2, q3]
    by_cases hb : 128 * n₀ + (128 * k + l.val) < 1000000
    · rw [q1 hb]
    · rw [if_neg hb, if_neg hb]
      simp [Lane.step]

end Fold

end Cert.KernelIdeal.Gen
-- ==== Proof.Blocks.lean ====
/-
# What the kernels' blocks hold

An element of a block a kernel fetches is an element of the argument: column `q` of the first kernel's block `t` is the
argument's column `32768 t + q`, and column `q` of the second kernel's block is the argument's column `983040 + q` as
far as the argument goes.
-/
module

public import proofs.«01_k».proof.Proof.Run
public import proofs.«01_k».proof.Proof.Steps
public import Idealize.ShloMosaic.Lib.Pipeline.ValueKit.Geometry

@[expose] public section

namespace Cert.KernelIdeal.Gen

open Idealize.ShloMosaic Idealize.ShloMosaic.TcCoe
open Idealize.ShloMosaic.Pipeline (Dat Cfg Window)
open Cert.Lanes

section Read
variable {F : FTy → Type} [FloatOps F]
variable (V : (c : Dev nD) → (b : Ref sig .tc) → Buf (Elt F) ((c : Thread nD τ).loc b))

/-- The first kernel's blocks lie one after another along the columns. -/
theorem index0_0 : ∀ t : Fin cfg0.N, (cfg0.win 0).index t 0 = 0 ∧ (cfg0.win 0).index t 1 = t.val := by decide +kernel
/-- The same of the second argument. -/
theorem index0_1 : ∀ t : Fin cfg0.N, (cfg0.win 1).index t 0 = 0 ∧ (cfg0.win 1).index t 1 = t.val := by decide +kernel

/-- An entry of the first kernel's block of logits is the argument's at that row and column. -/
theorem xblk0_at (c : Dev nD) (t : Fin cfg0.N) (r : Fin 32) (q : Fin 32768) (j : Fin 1000000) (hj : j.val = 32768 * t.val + q.val) :
    xblk0 V c t (ix2 r q) = (V c main_arg0 : Vec F S32x1000000 .f32) (ix2 r j) := by
  have hm : (cfg0.win 0).moved (cfg0.grid.coords t) (ix2 r q) = true :=
    ((cfg0.win 0).moved_iff _ _).mpr fun a => by
      have := ((ix2 r q : S32x32768.Idx) a).isLt; unfold Window.xsize; rw [clip0_0 t a]; exact this
  unfold xblk0 Window.fill
  rw [dif_pos hm]
  unfold iblk0
  show (V c main_arg0 : Vec F S32x1000000 .f32) (((cfg0.win 0).rect t).emb _) = _
  refine congrArg _ (funext fun a => Fin.ext ?_)
  rw [Pipeline.Window.rect_emb_val (cfg0.win 0) t _ a rfl]
  fin_cases a
  · show (cfg0.win 0).index t 0 * 32 + r.val = r.val
    rw [(index0_0 t).1]; omega
  · show (cfg0.win 0).index t 1 * 32768 + q.val = j.val
    rw [(index0_0 t).2, hj]; omega

/-- The same of the second argument. -/
theorem ublk0_at (c : Dev nD) (t : Fin cfg0.N) (r : Fin 32) (q : Fin 32768) (j : Fin 1000000) (hj : j.val = 32768 * t.val + q.val) :
    ublk0 V c t (ix2 r q) = (V c main_arg1 : Vec F S32x1000000 .f32) (ix2 r j) := by
  have hm : (cfg0.win 1).moved (cfg0.grid.coords t) (ix2 r q) = true :=
    ((cfg0.win 1).moved_iff _ _).mpr fun a => by
      have := ((ix2 r q : S32x32768.Idx) a).isLt; unfold Window.xsize; rw [clip0_1 t a]; exact this
  unfold ublk0 Window.fill
  rw [dif_pos hm]
  unfold iblk0
  show (V c main_arg1 : Vec F S32x1000000 .f32) (((cfg0.win 1).rect t).emb _) = _
  refine congrArg _ (funext fun a => Fin.ext ?_)
  rw [Pipeline.Window.rect_emb_val (cfg0.win 1) t _ a rfl]
  fin_cases a
  · show (cfg0.win 1).index t 0 * 32 + r.val = r.val
    rw [(index0_1 t).1]; omega
  · show (cfg0.win 1).index t 1 * 32768 + q.val = j.val
    rw [(index0_1 t).2, hj]; omega

/-- The second kernel's block starts at column 983040, and its part inside the array ends with the array. -/
theorem index1_0 : ∀ t : Fin cfg1.N, (cfg1.win 0).index t 0 = 0 ∧ (cfg1.win 0).index t 1 = 30 := by decide +kernel
/-- The same of the second argument. -/
theorem index1_1 : ∀ t : Fin cfg1.N, (cfg1.win 1).index t 0 = 0 ∧ (cfg1.win 1).index t 1 = 30 := by decide +kernel
/-- At least 16960 columns of the second kernel's block of logits lie inside the array. -/
theorem xsize1_0 : ∀ t : Fin cfg1.N, (cfg1.win 0).xsize (cfg1.grid.coords t) 0 = 32 ∧ 16960 ≤ (cfg1.win 0).xsize (cfg1.grid.coords t) 1 := by decide +kernel
/-- The same of the second argument. -/
theorem xsize1_1 : ∀ t : Fin cfg1.N, (cfg1.win 1).xsize (cfg1.grid.coords t) 0 = 32 ∧ 16960 ≤ (cfg1.win 1).xsize (cfg1.grid.coords t) 1 := by decide +kernel

/-- Inside the array, an entry of the second kernel's buffer of logits is the argument's, whatever the fetch finds past the end. -/
theorem buf1_0_at (c : Dev nD) (t : Fin cfg1.N) (d : (cfg1.win 0).block.Idx → Elt F (cfg1.win 0).elt) (r : Fin 32) (q : Fin 32768)
    (j : Fin 1000000) (hj : j.val = 983040 + q.val) :
    (buf1 V c 0 t d : Vec F S32x32768 .f32) (ix2 r q) = (V c main_arg0 : Vec F S32x1000000 .f32) (ix2 r j) := by
  have hjl := j.isLt
  have hm : (cfg1.win 0).moved (cfg1.grid.coords t) (ix2 r q) = true :=
    ((cfg1.win 0).moved_iff _ _).mpr fun a => by
      fin_cases a
      · show r.val < (cfg1.win 0).xsize (cfg1.grid.coords t) 0
        rw [(xsize1_0 t).1]; exact r.isLt
      · show q.val < (cfg1.win 0).xsize (cfg1.grid.coords t) 1
        have := (xsize1_0 t).2; omega
  unfold buf1 Window.fill
  rw [dif_pos hm]
  unfold iblk1
  show (V c main_arg0 : Vec F S32x1000000 .f32) (((cfg1.win 0).rect t).emb _) = _
  refine congrArg _ (funext fun a => Fin.ext ?_)
  rw [Pipeline.Window.rect_emb_val (cfg1.win 0) t _ a rfl]
  fin_cases a
  · show (cfg1.win 0).index t 0 * 32 + r.val = r.val
    rw [(index1_0 t).1]; omega
  · show (cfg1.win 0).index t 1 * 32768 + q.val = j.val
    rw [(index1_0 t).2, hj]

/-- The same of the second argument. -/
theorem buf1_1_at (c : Dev nD) (t : Fin cfg1.N) (d : (cfg1.win 1).block.Idx → Elt F (cfg1.win 1).elt) (r : Fin 32) (q : Fin 32768)
    (j : Fin 1000000) (hj : j.val = 983040 + q.val) :
    (buf1 V c 1 t d : Vec F S32x32768 .f32) (ix2 r q) = (V c main_arg1 : Vec F S32x1000000 .f32) (ix2 r j) := by
  have hjl := j.isLt
  have hm : (cfg1.win 1).moved (cfg1.grid.coords t) (ix2 r q) = true :=
    ((cfg1.win 1).moved_iff _ _).mpr fun a => by
      fin_cases a
      · show r.val < (cfg1.win 1).xsize (cfg1.grid.coords t) 0
        rw [(xsize1_1 t).1]; exact r.isLt
      · show q.val < (cfg1.win 1).xsize (cfg1.grid.coords t) 1
        have := (xsize1_1 t).2; omega
  unfold buf1 Window.fill
  rw [dif_pos hm]
  unfold iblk1
  show (V c main_arg1 : Vec F S32x1000000 .f32) (((cfg1.win 1).rect t).emb _) = _
  refine congrArg _ (funext fun a => Fin.ext ?_)
  rw [Pipeline.Window.rect_emb_val (cfg1.win 1) t _ a rfl]
  fin_cases a
  · show (cfg1.win 1).index t 0 * 32 + r.val = r.val
    rw [(index1_1 t).1]; omega
  · show (cfg1.win 1).index t 1 * 32768 + q.val = j.val
    rw [(index1_1 t).2, hj]

end Read

end Cert.KernelIdeal.Gen
-- ==== Proof.Rows.lean ====
/-
# What a row of the two results is

Over the extended reals the first kernel's accumulators at a row and a lane are that lane after the row's first 7680
chunks, and the second kernel's results at a row are the first column of largest score and its logit less the logarithm
of the row's sum of exponentials.
-/
module

public import proofs.«01_k».proof.Proof.Blocks

@[expose] public section

namespace Cert.KernelIdeal.Gen

open Idealize.ShloMosaic Idealize.ShloMosaic.TcCoe
open Idealize.ShloMosaic.Pipeline (Dat Cfg Window RDat)
open Cert.Lanes

/-- The first kernel's grid point `t` is coordinate `t`. -/
theorem coords0 : ∀ t : Fin cfg0.N, (grid0.coords t 0).val = t.val := by decide +kernel

section First
variable (V : (c : Dev nD) → (b : Ref sig .tc) → Buf (Elt Ideal) ((c : Thread nD τ).loc b))

/-- The arguments as the kernels find them. -/
abbrev argX (c : Dev nD) : Vec Ideal S32x1000000 .f32 := V c main_arg0
/-- The same of the second argument. -/
abbrev argU (c : Dev nD) : Vec Ideal S32x1000000 .f32 := V c main_arg1

/-- The first kernel's accumulators are the lanes. -/
theorem accA_at (c : Dev nD) (r : Fin 32) (l : Fin 128) : ∀ n ≤ 30,
    at4 (accA V c n) (ix2 r l) = lane (rowS (argX V c) (argU V c) r) (rowX (argX V c) r) (rowE (argX V c) r) l (256 * n) := by
  intro n
  induction n with
  | zero => intro _; rw [accA, at4_init, Nat.mul_zero, lane]
  | succ n ih =>
    intro hn
    have hN : n < cfg0.N := by rw [show cfg0.N = 30 from N_0]; omega
    have hcol : ∀ q : Fin 32768, 128 * (256 * n) + q.val < 1000000 := fun q => by have := q.isLt; omega
    rw [accA_succ V c ⟨n, hN⟩, outA, tripsA]
    have e := foldA_at (rowS (argX V c) (argU V c) r) (rowX (argX V c) r) (rowE (argX V c) r) (xblk0 V c ⟨n, hN⟩) (ublk0 V c ⟨n, hN⟩) r l (256 * n)
      ((accA V c n).1, (accA V c n).2.1, (accA V c n).2.2.1, (accA V c n).2.2.2, k0_pay5 (grid0.coords ⟨n, hN⟩))
      (fun q => by
        rw [rowX, dif_pos (hcol q), xblk0_at V c ⟨n, hN⟩ r q ⟨_, hcol q⟩ (by dsimp only; omega)])
      (fun q => by
        rw [rowS, dif_pos (hcol q), xblk0_at V c ⟨n, hN⟩ r q ⟨_, hcol q⟩ (by dsimp only; omega),
          ublk0_at V c ⟨n, hN⟩ r q ⟨_, hcol q⟩ (by dsimp only; omega)])
      (fun q => by
        rw [rowE, dif_pos (hcol q), xblk0_at V c ⟨n, hN⟩ r q ⟨_, hcol q⟩ (by dsimp only; omega)])
      (ih (by omega))
      (by dsimp only; rw [pay5_at, coords0])
      256 (le_refl _)
    rw [show 256 * (n + 1) = 256 * n + 256 by ring]
    exact e.1

end First

section Last
variable (s c x e : FVec Ideal S32x128 .f32) (r : Fin 32) (z : Fin 1)

/-- The column the second kernel picks: the least among the lanes of largest score. -/
theorem pay14_at : k1_pay14 s c (ix2 r z)
    = Finset.univ.inf fun l : Fin 128 => if s (ix2 r l) = (Finset.univ.sup fun l : Fin 128 => s (ix2 r l)) then c (ix2 r l)
        else ((2147483648 : ℝ) : EReal) := by
  pointwise [k1_pay14]
  rw [ofBits_top, ofBits_bot, ofBits_big]
  rfl

/-- The second result: the picked column's logit less the logarithm of the sum. -/
theorem pay16_at : k1_pay16 s c x e (ix2 r z)
    = (Finset.univ.sup fun l : Fin 128 => if c (ix2 r l) = k1_pay14 s c (ix2 r 0) then x (ix2 r l) else ⊥)
      - (((16 : ℝ) : EReal) + Ideal.log (∑ l : Fin 128, e (ix2 r l))) := by
  pointwise [k1_pay16]
  rw [ofBits_bot, ofBits_16]
  rfl

/-- A column number read back as a word. -/
theorem fptosi_num (a : ℕ) (h : a < 1000000) : Ideal.fptosi 32 (num a) = BitVec.ofNat 32 a := by
  rw [num, Ideal.fptosi, Ideal.toIntClamped_coe, if_pos (by positivity)]
  rw [show ⌊((a : ℕ) : ℝ)⌋ = (a : ℤ) from Int.floor_natCast a]
  rw [show max (-((2 ^ (32 - 1) : ℕ) : ℤ)) (min (((2 ^ (32 - 1) : ℕ) : ℤ) - 1) (a : ℤ)) = (a : ℤ) by omega]
  rfl

variable (S X E : ℕ → EReal) (N : ℕ)

/-- The second kernel's reduction over the lanes, given that its accumulators are the lanes at the end. -/
theorem reduce_at (hN : 1000000 ≤ 128 * N) (hS : ∀ c < 1000000, ⊥ < S c) (hS' : ∀ c, 1000000 ≤ c → S c = ⊥)
    (hE : ∀ c, 1000000 ≤ c → E c = 0) (h : ∀ l : Fin 128, at4 (s, c, x, e) (ix2 r l) = lane S X E l N) :
    ∃ a, Cert.Lanes.First S a ∧ k1_pay15 s c (ix2 r 0) = BitVec.ofNat 32 a
      ∧ k1_pay16 s c x e (ix2 r 0) = X a - (((16 : ℝ) : EReal) + Ideal.log (∑ j : Fin 1000000, E j.val)) := by
  have hs : ∀ l : Fin 128, s (ix2 r l) = (lane S X E l N).s := fun l => by rw [← h l]; rfl
  have hc : ∀ l : Fin 128, c (ix2 r l) = (lane S X E l N).c := fun l => by rw [← h l]; rfl
  have hx : ∀ l : Fin 128, x (ix2 r l) = (lane S X E l N).x := fun l => by rw [← h l]; rfl
  have he : ∀ l : Fin 128, e (ix2 r l) = (lane S X E l N).e := fun l => by rw [← h l]; rfl
  obtain ⟨a, ha, h1, h2⟩ := pick S X E N hN hS hS' ((2147483648 : ℝ) : EReal)
    (by rw [num, EReal.coe_le_coe_iff]; norm_num)
  have h14 : k1_pay14 s c (ix2 r 0) = num a := by
    rw [pay14_at, ← h1, top]
    simp only [hs, hc]
  refine ⟨a, ha, ?_, ?_⟩
  · show Ideal.fptosi 32 (k1_pay14 s c (ix2 r 0)) = _
    rw [h14, fptosi_num a ha.1]
  · rw [pay16_at, h14, ← lane_total S X E N hN hE]
    simp only [hc, hx, he]
    rw [h2]

end Last

section Second
variable (V : (c : Dev nD) → (b : Ref sig .tc) → Buf (Elt Ideal) ((c : Thread nD τ).loc b))

/-- The second kernel's results at a row, entered with the lanes as the first kernel leaves them. -/
theorem outB_at (cd : Dev nD) (t : Fin cfg1.N) (r : Fin 32) (d0 d1)
    (hS : ∀ n < 1000000, ⊥ < rowS (argX V cd) (argU V cd) r n)
    (hacc : ∀ l : Fin 128, at4 (accB V cd t) (ix2 r l)
      = lane (rowS (argX V cd) (argU V cd) r) (rowX (argX V cd) r) (rowE (argX V cd) r) l 7680) :
    ∃ a, Cert.Lanes.First (rowS (argX V cd) (argU V cd) r) a
      ∧ (outB (buf1 V cd 0 t d0) (buf1 V cd 1 t d1) (accB V cd t)).1 (ix2 r 0) = BitVec.ofNat 32 a
      ∧ (outB (buf1 V cd 0 t d0) (buf1 V cd 1 t d1) (accB V cd t)).2 (ix2 r 0)
        = rowX (argX V cd) r a - (((16 : ℝ) : EReal) + Ideal.log (∑ j : Fin 1000000, rowE (argX V cd) r j.val)) := by
  have key := fun l : Fin 128 => (foldB_at (rowS (argX V cd) (argU V cd) r) (rowX (argX V cd) r) (rowE (argX V cd) r)
      (buf1 V cd 0 t d0) (buf1 V cd 1 t d1) r l 7680
      ((accB V cd t).1, (accB V cd t).2.1, (accB V cd t).2.2.1, (accB V cd t).2.2.2, k1_pay1)
      (fun q hq => by
        rw [rowX, dif_pos hq, buf1_0_at V cd t d0 r q ⟨_, hq⟩ (by dsimp only)])
      (fun q => by
        by_cases hq : 128 * 7680 + q.val < 1000000
        · rw [rowS, dif_pos hq, if_pos hq, buf1_0_at V cd t d0 r q ⟨_, hq⟩ (by dsimp only),
            buf1_1_at V cd t d1 r q ⟨_, hq⟩ (by dsimp only)]
        · rw [rowS, dif_neg hq, if_neg hq])
      (fun q => by
        by_cases hq : 128 * 7680 + q.val < 1000000
        · rw [rowE, dif_pos hq, if_pos hq, buf1_0_at V cd t d0 r q ⟨_, hq⟩ (by dsimp only)]
        · rw [rowE, dif_neg hq, if_neg hq])
      (hacc l) (by dsimp only; rw [pay1_at]) 256 (le_refl _)).1
  have hlast : lastB (buf1 V cd 0 t d0) (buf1 V cd 1 t d1) (accB V cd t)
      = foldB (buf1 V cd 0 t d0) (buf1 V cd 1 t d1) ((accB V cd t).1, (accB V cd t).2.1, (accB V cd t).2.2.1, (accB V cd t).2.2.2, k1_pay1) 256 := by
    rw [lastB, tripsB]
  unfold outB
  rw [hlast]
  exact reduce_at _ _ _ _ r _ _ _ (7680 + 256) (by norm_num) hS
    (fun n hn => by rw [rowS, dif_neg (by omega)]) (fun n hn => by rw [rowE, dif_neg (by omega)]) key

end Second

end Cert.KernelIdeal.Gen
-- ==== Proof.Results.lean ====
/-
# The kernel's two results

Read off the run: at each row the index result is the first column of largest score and the other result that column's
logit less the logarithm of the row's sum of exponentials.
-/
module

public import proofs.«01_k».proof.Proof.Rows

@[expose] public section

namespace Cert.KernelIdeal.Gen

open Idealize.ShloMosaic Idealize.ShloMosaic.TcCoe
open Idealize.ShloMosaic.Pipeline (Dat Cfg Window RDat)
open Cert.Lanes

section Whole
variable (m : (ℓ : Loc nD τ sig) → Buf (Elt Ideal) ℓ) (ρ : Dev nD → PrngReg)

/-- The first kernel's last block of scores covers its array. -/
theorem whole0_2 : (cfg0.win 2).WholeAt ⟨29, by decide⟩ := by decide +kernel
/-- The same of the columns. -/
theorem whole0_3 : (cfg0.win 3).WholeAt ⟨29, by decide⟩ := by decide +kernel
/-- The same of the logits. -/
theorem whole0_4 : (cfg0.win 4).WholeAt ⟨29, by decide⟩ := by decide +kernel
/-- The same of the sums. -/
theorem whole0_5 : (cfg0.win 5).WholeAt ⟨29, by decide⟩ := by decide +kernel
/-- The second kernel's block of indices covers its array. -/
theorem whole1_6 : (cfg1.win 6).WholeAt t1_0 := by decide +kernel
/-- The same of the log-probabilities. -/
theorem whole1_7 : (cfg1.win 7).WholeAt t1_0 := by decide +kernel

/-- The first kernel's arrays at the end are its accumulators after the last block. -/
theorem arr0_2 (c : Dev nD) (i : S32x128.Idx) : (W1 m ρ c main_v0_0 : Vec Ideal S32x128 .f32) i = (accA (E0 m ρ) c 30).1 i := by
  have e := W1_arr m ρ c 2
  have h := (dat0 (E0 m ρ) c).arrAt_emb_eq_after_last 2 ⟨29, by decide⟩ whole0_2 i
  exact (congrFun e i).trans h
/-- The same of the columns. -/
theorem arr0_3 (c : Dev nD) (i : S32x128.Idx) : (W1 m ρ c main_v0_1 : Vec Ideal S32x128 .f32) i = (accA (E0 m ρ) c 30).2.1 i := by
  have e := W1_arr m ρ c 3
  have h := (dat0 (E0 m ρ) c).arrAt_emb_eq_after_last 3 ⟨29, by decide⟩ whole0_3 i
  exact (congrFun e i).trans h
/-- The same of the logits. -/
theorem arr0_4 (c : Dev nD) (i : S32x128.Idx) : (W1 m ρ c main_v0_2 : Vec Ideal S32x128 .f32) i = (accA (E0 m ρ) c 30).2.2.1 i := by
  have e := W1_arr m ρ c 4
  have h := (dat0 (E0 m ρ) c).arrAt_emb_eq_after_last 4 ⟨29, by decide⟩ whole0_4 i
  exact (congrFun e i).trans h
/-- The same of the sums. -/
theorem arr0_5 (c : Dev nD) (i : S32x128.Idx) : (W1 m ρ c main_v0_3 : Vec Ideal S32x128 .f32) i = (accA (E0 m ρ) c 30).2.2.2 i := by
  have e := W1_arr m ρ c 5
  have h := (dat0 (E0 m ρ) c).arrAt_emb_eq_after_last 5 ⟨29, by decide⟩ whole0_5 i
  exact (congrFun e i).trans h

/-- The second kernel's accumulator windows hold those whole arrays. -/
theorem index1_2 : ∀ t : Fin cfg1.N, ∀ a, (cfg1.win 2).index t a = 0 := by decide +kernel
/-- The same of the columns. -/
theorem index1_3 : ∀ t : Fin cfg1.N, ∀ a, (cfg1.win 3).index t a = 0 := by decide +kernel
/-- The same of the logits. -/
theorem index1_4 : ∀ t : Fin cfg1.N, ∀ a, (cfg1.win 4).index t a = 0 := by decide +kernel
/-- The same of the sums. -/
theorem index1_5 : ∀ t : Fin cfg1.N, ∀ a, (cfg1.win 5).index t a = 0 := by decide +kernel

/-- So the second kernel's block of scores is the whole array. -/
theorem blk1_2 (V : (c : Dev nD) → (b : Ref sig .tc) → Buf (Elt Ideal) ((c : Thread nD τ).loc b)) (c : Dev nD) (t : Fin cfg1.N) (i : S32x128.Idx) :
    (iblk1 V c 2 t : Vec Ideal S32x128 .f32) i = (V c main_v0_0 : Vec Ideal S32x128 .f32) i := by
  unfold iblk1
  show (V c main_v0_0 : Vec Ideal S32x128 .f32) (((cfg1.win 2).rect t).emb _) = _
  refine congrArg _ (funext fun a => Fin.ext ?_)
  rw [Pipeline.Window.rect_emb_val (cfg1.win 2) t _ a rfl, index1_2 t a, Nat.zero_mul, Nat.zero_add]
/-- The same of the columns. -/
theorem blk1_3 (V : (c : Dev nD) → (b : Ref sig .tc) → Buf (Elt Ideal) ((c : Thread nD τ).loc b)) (c : Dev nD) (t : Fin cfg1.N) (i : S32x128.Idx) :
    (iblk1 V c 3 t : Vec Ideal S32x128 .f32) i = (V c main_v0_1 : Vec Ideal S32x128 .f32) i := by
  unfold iblk1
  show (V c main_v0_1 : Vec Ideal S32x128 .f32) (((cfg1.win 3).rect t).emb _) = _
  refine congrArg _ (funext fun a => Fin.ext ?_)
  rw [Pipeline.Window.rect_emb_val (cfg1.win 3) t _ a rfl, index1_3 t a, Nat.zero_mul, Nat.zero_add]
/-- The same of the logits. -/
theorem blk1_4 (V : (c : Dev nD) → (b : Ref sig .tc) → Buf (Elt Ideal) ((c : Thread nD τ).loc b)) (c : Dev nD) (t : Fin cfg1.N) (i : S32x128.Idx) :
    (iblk1 V c 4 t : Vec Ideal S32x128 .f32) i = (V c main_v0_2 : Vec Ideal S32x128 .f32) i := by
  unfold iblk1
  show (V c main_v0_2 : Vec Ideal S32x128 .f32) (((cfg1.win 4).rect t).emb _) = _
  refine congrArg _ (funext fun a => Fin.ext ?_)
  rw [Pipeline.Window.rect_emb_val (cfg1.win 4) t _ a rfl, index1_4 t a, Nat.zero_mul, Nat.zero_add]
/-- The same of the sums. -/
theorem blk1_5 (V : (c : Dev nD) → (b : Ref sig .tc) → Buf (Elt Ideal) ((c : Thread nD τ).loc b)) (c : Dev nD) (t : Fin cfg1.N) (i : S32x128.Idx) :
    (iblk1 V c 5 t : Vec Ideal S32x128 .f32) i = (V c main_v0_3 : Vec Ideal S32x128 .f32) i := by
  unfold iblk1
  show (V c main_v0_3 : Vec Ideal S32x128 .f32) (((cfg1.win 5).rect t).emb _) = _
  refine congrArg _ (funext fun a => Fin.ext ?_)
  rw [Pipeline.Window.rect_emb_val (cfg1.win 5) t _ a rfl, index1_5 t a, Nat.zero_mul, Nat.zero_add]

/-- So the second kernel starts from the first one's accumulators. -/
theorem at4_accB (c : Dev nD) (i : S32x128.Idx) : at4 (accB (E1 m ρ) c t1_0) i = at4 (accA (E0 m ρ) c 30) i := by
  have h1 : (accB (E1 m ρ) c t1_0).1 i = (accA (E0 m ρ) c 30).1 i := (blk1_2 (E1 m ρ) c t1_0 i).trans (arr0_2 m ρ c i)
  have h2 : (accB (E1 m ρ) c t1_0).2.1 i = (accA (E0 m ρ) c 30).2.1 i := (blk1_3 (E1 m ρ) c t1_0 i).trans (arr0_3 m ρ c i)
  have h3 : (accB (E1 m ρ) c t1_0).2.2.1 i = (accA (E0 m ρ) c 30).2.2.1 i := (blk1_4 (E1 m ρ) c t1_0 i).trans (arr0_4 m ρ c i)
  have h4 : (accB (E1 m ρ) c t1_0).2.2.2 i = (accA (E0 m ρ) c 30).2.2.2 i := (blk1_5 (E1 m ρ) c t1_0 i).trans (arr0_5 m ρ c i)
  rw [at4, at4, h1, h2, h3, h4]

/-- The launch's arguments on core `c`. -/
abbrev mX (c : Dev nD) : Vec Ideal S32x1000000 .f32 := m ((c : Thread nD τ).loc main_arg0)
/-- The same of the second argument. -/
abbrev mU (c : Dev nD) : Vec Ideal S32x1000000 .f32 := m ((c : Thread nD τ).loc main_arg1)

/-- The results at a row, for whatever the second kernel's fetches find past the arrays' ends. -/
theorem row_of_left (c : Dev nD) (r : Fin 32) (d0 d1) (hS : ∀ n < 1000000, ⊥ < rowS (mX m c) (mU m c) r n) :
    RowResult (mX m c) (mU m c) r ((outB (buf1 (E1 m ρ) c 0 t1_0 d0) (buf1 (E1 m ρ) c 1 t1_0 d1) (accB (E1 m ρ) c t1_0)).1 (ix2 r 0))
      ((outB (buf1 (E1 m ρ) c 0 t1_0 d0) (buf1 (E1 m ρ) c 1 t1_0 d1) (accB (E1 m ρ) c t1_0)).2 (ix2 r 0)) := by
  have hX : argX (E1 m ρ) c = mX m c := W1_main_arg0 m ρ c
  have hU : argU (E1 m ρ) c = mU m c := W1_main_arg1 m ρ c
  have h := outB_at (E1 m ρ) c t1_0 r d0 d1
  rw [hX, hU] at h
  exact h hS fun l => (at4_accB m ρ c _).trans (accA_at (E0 m ρ) c r l 30 (le_refl _))

/-! ## The results off the run -/

/-- The second kernel's window 6 and 7 arrays, each as its body may leave its buffer. -/
theorem left_6 (c : Dev nD) (A : Arrs1 c) (h : Ends1 m ρ c A) :
    ∃ d0 d1, ∀ j : S32x1.Idx, (A 6 : Vec Ideal S32x1 .i32) j
      = (outB (buf1 (E1 m ρ) c 0 t1_0 d0) (buf1 (E1 m ρ) c 1 t1_0 d1) (accB (E1 m ρ) c t1_0)).1 j := by
  obtain ⟨X, hX, hG⟩ := (h 6).emb_eq_of_wholeAt whole1_6
  obtain ⟨d0, d1, rfl⟩ := Dat.toRRel_leaves (dat1 (E1 m ρ) c) (fgt := loose1) (Rl := left1 (E1 m ρ) c) rfl hX
  exact ⟨d0, d1, hG⟩
/-- The same of the log-probabilities. -/
theorem left_7 (c : Dev nD) (A : Arrs1 c) (h : Ends1 m ρ c A) :
    ∃ d0 d1, ∀ j : S32x1.Idx, (A 7 : Vec Ideal S32x1 .f32) j
      = (outB (buf1 (E1 m ρ) c 0 t1_0 d0) (buf1 (E1 m ρ) c 1 t1_0 d1) (accB (E1 m ρ) c t1_0)).2 j := by
  obtain ⟨X, hX, hG⟩ := (h 7).emb_eq_of_wholeAt whole1_7
  obtain ⟨d0, d1, rfl⟩ := Dat.toRRel_leaves (dat1 (E1 m ρ) c) (fgt := loose1) (Rl := left1 (E1 m ρ) c) rfl hX
  exact ⟨d0, d1, hG⟩

/-- The host's last step drops the index result's unit axis. -/
theorem W3_main_v2 (c : Dev nD) (A : Arrs1 c) (r : Fin 32) :
    (W3 m ρ c A main_v2 : Vec Ideal S32 .i32) (ix1 r) = (A 6 : Vec Ideal S32x1 .i32) (ix2 r 0) := by
  have h : (W3 m ρ c A main_v2 : Vec Ideal S32 .i32) = shapeCast S32 (W2 m ρ c A main_v1_0 : Vec Ideal S32x1 .i32) shapeCasts_S32x1_S32 := by
    after_results_simp
    rfl
  rw [h]
  pointwise
  exact congrFun (W2_arr m ρ c A 6) _

/-- The log-probability result is the second kernel's array. -/
theorem W3_main_v1_1 (c : Dev nD) (A : Arrs1 c) : (W3 m ρ c A main_v1_1 : Vec Ideal S32x1 .f32) = A 7 :=
  (W3_of m ρ c A main_v1_1 (by decide)).trans (W2_arr m ρ c A 7)

/-- A row's results, whatever the run. -/
theorem row_result (c : Dev nD) (A : Arrs1 c) (h : Ends1 m ρ c A) (r : Fin 32) (hS : ∀ n < 1000000, ⊥ < rowS (mX m c) (mU m c) r n) :
    RowResult (mX m c) (mU m c) r ((W3 m ρ c A main_v2 : Vec Ideal S32 .i32) (ix1 r)) ((W3 m ρ c A main_v1_1 : Vec Ideal S32x1 .f32) (ix2 r 0)) := by
  obtain ⟨d0, d1, h6⟩ := left_6 m ρ c A h
  obtain ⟨d0', d1', h7⟩ := left_7 m ρ c A h
  obtain ⟨a, ha, ha1, -⟩ := row_of_left m ρ c r d0 d1 hS
  obtain ⟨b, hb, -, hb2⟩ := row_of_left m ρ c r d0' d1' hS
  refine ⟨a, ha, ?_, ?_⟩
  · rw [W3_main_v2, h6, ha1]
  · rw [W3_main_v1_1, h7, hb2, Cert.Lanes.First.unique _ ha hb]

end Whole

end Cert.KernelIdeal.Gen
-- ==== Proof.RefRow.lean ====
/-
# The reference's stages over the extended reals

Each stage of the reference, read at one row: the scores, the log-softmax, and the selection of the entry a column index names.
-/
module

public import proofs.«01_k».proof.Proof.RefRun
public import proofs.«01_k».proof.Proof.Scores
public import Idealize.ShloMosaic.Lib.IdealHost

@[expose] public section

noncomputable section

namespace Cert.ReferenceIdeal.Value

open Cert.ReferenceIdeal Cert.ReferenceIdeal.Gen Idealize.ShloMosaic Idealize.ShloMosaic.TcCoe
open Cert.Lanes

/-- Dividing by a temperature of one changes nothing. -/
theorem scaled_eq (x : Vec Ideal S32x1000000 .f32) : scaled x = x := by
  funext i
  have h : scaled x i = Ideal.div (x i) (Ideal.ofBits .f32 0x3F800000#32) := rfl
  rw [h, Ideal.ofBits_one_f32, ← EReal.coe_one, Ideal.div_coe one_ne_zero, one_div_one, EReal.coe_one]
  exact mul_one (x i : EReal)

/-- A perturbed score. -/
theorem scores_at (x u : Vec Ideal S32x1000000 .f32) (i : S32x1000000.Idx) : scores x u i = score (x i) (u i) := by
  have h : scores x u i = scaled x i + -Ideal.log (-Ideal.log (u i + eps) + eps) := rfl
  rw [h, scaled_eq, score, zero_sub, sub_eq_add_neg]

/-- A row and a column give the index of the entry a reduction along the row reads. -/
theorem lift_at (h : S32x1000000.Reduces [1] S32) (r : Fin 32) (k : Fin 1000000) : h.lift (ix1 r) k = ix2 r k :=
  funext fun a => Fin.ext (by fin_cases a <;> rfl)

/-- Reducing along the columns leaves one value per row. -/
theorem reduces_row : S32x1000000.Reduces [1] S32 := by decide

/-- A fold of the maximum from minus infinity is the least upper bound. -/
theorem fold_max (N : Finset (Fin 1000000)) (f : Fin 1000000 → EReal) : N.fold max ⊥ f = N.sup f := rfl

/-- A row's largest entry. -/
theorem rowMax_at (x : Vec Ideal S32x1000000 .f32) (r : Fin 32) :
    rowMax x (ix1 r) = Finset.univ.sup fun k : Fin 1000000 => (x (ix2 r k) : EReal) := by
  unfold rowMax
  rw [Host.reduce_eq_fold_single _ _ _ _ reduces_row,
    show constant (F := Ideal) S_ .f32 0xFF800000#32 (Shape.Idx.first h_S_) = (⊥ : EReal) from ofBits_bot,
    show x ∘ reduces_row.lift (ix1 r) = fun k : Fin 1000000 => x (ix2 r k) from funext fun k => congrArg x (lift_at reduces_row r k)]
  exact fold_max _ _

/-- A row's sum of exponentials. -/
theorem rowSum_at (x : Vec Ideal S32x1000000 .f32) (r : Fin 32) :
    rowSum x (ix1 r) = ∑ k : Fin 1000000, Ideal.exp (x (ix2 r k)) := by
  unfold rowSum
  simp only [Host.reduceAdd, Ideal.hostReduceAdd_def]
  rw [Ideal.hostReduceAdd_single reducesTo_S32x1000000_S32_d1 reduces_row,
    show constant (F := Ideal) S_ .f32 0x00000000#32 (Shape.Idx.first h_S_) = (0 : EReal) from ofBits_nil, zero_add]
  exact Finset.sum_congr rfl fun k _ => congrArg (fun i => Ideal.exp (x i)) (lift_at reduces_row r k)

/-- One value per row, laid along the row. -/
theorem wide_at (y : Vec Ideal S32x1 .f32) (i : S32x1000000.Idx) :
    broadcastInDim S32x1000000 ![0, 1] bcast_S32x1_S32x1000000_0_1 y i = y (ix2 ⟨(i 0).val, (i 0).isLt⟩ 0) :=
  broadcastInDim_apply _ bcast_S32x1_S32x1000000_0_1 y i (ix2 ⟨(i 0).val, (i 0).isLt⟩ 0) (fun a => match a with
    | ⟨0, _⟩ => by show (i 0).val = if (32 : Nat) = 1 then 0 else (i 0).val; rw [if_neg (by decide)]
    | ⟨1, _⟩ => by show 0 = if (1 : Nat) = 1 then 0 else (i 1).val; rw [if_pos rfl])

/-- One value per row, with a unit axis behind. -/
theorem tall_at {α : Type} (y : S32.Idx → α) (r : Fin 32) :
    broadcastInDim S32x1 ![0] bcast_S32_S32x1_0 y (ix2 r 0) = y (ix1 r) :=
  broadcastInDim_apply _ bcast_S32_S32x1_0 y (ix2 r 0) (ix1 r) (fun a => match a with
    | ⟨0, _⟩ => by show r.val = if (32 : Nat) = 1 then 0 else r.val; rw [if_neg (by decide)])

/-- A difference of arrays at an index. -/
theorem subf_at {s : Shape} (a b : FVec Ideal s .f32) (i : s.Idx) : subf a b i = (a i : EReal) - b i := rfl

/-- The greater of minus infinity and a value is the value. -/
theorem floor_eq (y : Vec Ideal S32 .f32) :
    maximumf (F := Ideal) (φ := .f32) (broadcastInDim S32 ![] bcast_S_S32 (constant S_ .f32 0xFF800000#32)) y = y := by
  funext i
  have h : maximumf (F := Ideal) (φ := .f32) (broadcastInDim S32 ![] bcast_S_S32 (constant S_ .f32 0xFF800000#32)) y i
      = max (Ideal.ofBits .f32 0xFF800000#32) (y i) := rfl
  rw [h, ofBits_bot]
  exact max_eq_right bot_le

/-- A row less its maximum. -/
theorem shifted_at (x : Vec Ideal S32x1000000 .f32) (r : Fin 32) (k : Fin 1000000) :
    shifted x (ix2 r k) = (x (ix2 r k) : EReal) - rowMax x (ix1 r) := by
  unfold shifted
  rw [subf_at, floor_eq]
  generalize rowMax x = y
  rw [wide_at]
  generalize hw : (x (ix2 r k) : EReal) = w
  exact congrArg (w - ·) (tall_at y r)

/-- A logarithm of an array at an index. -/
theorem log_at {s : Shape} (a : FVec Ideal s .f32) (i : s.Idx) : Host.log a i = Ideal.log (a i) := rfl

/-- The logarithm of a row's sum of exponentials. -/
theorem logSum_at (x : Vec Ideal S32x1000000 .f32) (r : Fin 32) : logSum x (ix2 r 0) = Ideal.log (rowSum x (ix1 r)) := by
  unfold logSum
  generalize rowSum x = y
  rw [log_at, tall_at]

/-- The log-softmax of a row. -/
theorem logSoftmax_at (x : Vec Ideal S32x1000000 .f32) (r : Fin 32) (k : Fin 1000000) :
    logSoftmax x (ix2 r k) = (shifted x (ix2 r k) : EReal) - Ideal.log (rowSum (shifted x) (ix1 r)) := by
  unfold logSoftmax
  generalize shifted x = z
  rw [subf_at, wide_at, ← logSum_at]
  generalize logSum z = y
  rfl

/-- A column's number read back from its 32-bit pattern, as a signed integer. -/
theorem toInt_ofNat (a : ℕ) (ha : a < 1000000) : (BitVec.ofNat 32 a).toInt = (a : ℤ) := by
  rw [BitVec.toInt_ofNat']; exact Int.bmod_eq_of_le (by omega) (by omega)

/-- A column index inside the row is kept. -/
theorem wrapped_at (i : Vec Ideal S32x1 .i32) (r : Fin 32) (a : ℕ) (ha : a < 1000000) (hi : i (ix2 r 0) = BitVec.ofNat 32 a) :
    wrapped (F := Ideal) i (ix3 r 0 0) = BitVec.ofNat 32 a := by
  pointwise [wrapped]
  rw [hi]
  have h : ¬ (BitVec.ofNat 32 a).toInt < 0 := by rw [toInt_ofNat a ha]; omega
  simp [IntOp.cmpi, Scalar.select, BitVec.slt, h]

/-- The entry a gather reads. -/
theorem gather_at (x : Vec Ideal S32x1000000 .f32) (i : Vec Ideal S32x1x1 .i32) (r : Fin 32) (a : ℕ) (ha : a < 1000000)
    (hi : i (ix3 r 0 0) = BitVec.ofNat 32 a) :
    Host.gather gather_S32x1000000_S32x1x1_S32x1_n_1_0_0_1_2_11 x i (ix2 r 0) = x (ix2 r ⟨a, ha⟩) := by
  refine congrArg x (funext fun b => Fin.ext ?_)
  fin_cases b
  · show 0 + r.val + 0 = r.val
    omega
  · have h : ∀ c, gather_S32x1000000_S32x1x1_S32x1_n_1_0_0_1_2_11.siIdx (ix2 r 0) c = ix3 r 0 0 := fun c =>
      funext fun b => Fin.ext (by have := c.isLt; fin_cases b <;> first | rfl | (show c.val = 0; exact Nat.lt_one_iff.mp c.isLt))
    show GatherDims.start _ _ i 1 + 0 + 0 = a
    unfold GatherDims.start
    rw [dif_pos (by decide), h, hi, toInt_ofNat a ha]
    show min a 999999 + 0 + 0 = a
    omega

/-- The entry selected is the one at the column the index names. -/
theorem takeOf_at (x : Vec Ideal S32x1000000 .f32) (i : Vec Ideal S32x1 .i32) (r : Fin 32) (a : ℕ) (ha : a < 1000000)
    (hi : i (ix2 r 0) = BitVec.ofNat 32 a) : takeOf x i (ix2 r 0) = x (ix2 r ⟨a, ha⟩) := by
  have hw := wrapped_at i r a ha hi
  pointwise [takeOf]
  rw [gather_at x _ r a ha hw]
  generalize wrapped (F := Ideal) i = w at hw
  pointwise [inRow]
  have h0 : ¬ (BitVec.ofNat 32 a).toInt < 0 := by rw [toInt_ofNat a ha]; omega
  have h1 : (BitVec.ofNat 32 a).toInt ≤ 999999 := by rw [toInt_ofNat a ha]; omega
  have h2 : 0 ≤ (BitVec.ofNat 32 a).toInt := by rw [toInt_ofNat a ha]; omega
  simp [hw, IntOp.cmpi, IntOp.andi, Scalar.select, BitVec.sle, h1, h2]

end Cert.ReferenceIdeal.Value

end
-- ==== Proof.RefValue.lean ====
/-
# The reference's results over the extended reals

Its arg-max is the first column of largest score; its second result is that column's log-probability.
-/
module

public import proofs.«01_k».proof.Proof.RefRow

@[expose] public section

noncomputable section

namespace Cert.ReferenceIdeal.Value

open Cert.ReferenceIdeal Cert.ReferenceIdeal.Gen Idealize.ShloMosaic Idealize.ShloMosaic.TcCoe
open Cert.Lanes

/-! ## The arg-max -/

/-- One step of the reference's arg-max keeps the pair of larger score, of two with the same score the earlier column's. -/
theorem reducer_eq (p q : EReal × BitVec 32) :
    reducer_argmax_f32_i32 (F := Ideal) p q = if q.1 < p.1 ∨ (p.1 = q.1 ∧ p.2.toInt < q.2.toInt) then p else q := by
  obtain ⟨p1, p2⟩ := p
  obtain ⟨q1, q2⟩ := q
  have h : reducer_argmax_f32_i32 (F := Ideal) (p1, p2) (q1, q2)
      = (Scalar.select (IntOp.ori (BitVec.ofBool (decide (q1 < p1))) (BitVec.ofBool (decide (p1 ≠ p1)))) p1 q1,
        Scalar.select (IntOp.ori (IntOp.ori (BitVec.ofBool (decide (q1 < p1))) (BitVec.ofBool (decide (p1 ≠ p1))))
          (IntOp.andi (BitVec.ofBool (decide (p1 = q1))) (BitVec.ofBool (p2.slt q2)))) p2 q2) := rfl
  rw [h]
  by_cases h1 : q1 < p1
  · have h1' : ∀ b : BitVec 1, 1#1 ||| b = 1#1 := by decide
    simp [h1, IntOp.ori, Scalar.select, h1']
  · by_cases h2 : p1 = q1
    · subst h2
      by_cases h3 : p2.toInt < q2.toInt <;> simp [h3, IntOp.ori, IntOp.andi, Scalar.select, BitVec.slt]
    · simp [h1, h2, IntOp.ori, IntOp.andi, Scalar.select]

/-- A pair the arg-max prefers `w` to. -/
def Loses (w p : EReal × BitVec 32) : Prop := p.1 < w.1 ∨ (p.1 = w.1 ∧ w.2.toInt < p.2.toInt)

/-- The arg-max of a list in which every pair but `w` loses to `w` is `w`. -/
theorem argmax_wins (w : EReal × BitVec 32) (l : List (EReal × BitVec 32)) (hl : ∀ q ∈ l, q = w ∨ Loses w q) :
    ∀ p, (p = w ∨ Loses w p) → (p = w ∨ w ∈ l) → l.foldl (reducer_argmax_f32_i32 (F := Ideal)) p = w := by
  induction l with
  | nil => intro p _ h; simpa using h
  | cons q l ih =>
    intro p hp h
    have hq := hl q List.mem_cons_self
    refine ih (fun t ht => hl t (List.mem_cons_of_mem _ ht)) _ ?_ ?_
    · rw [reducer_eq]
      split_ifs
      · exact hp
      · exact hq
    · have hpw : (p = w ∨ q = w) → reducer_argmax_f32_i32 (F := Ideal) p q = w := by
        rw [reducer_eq]
        rintro (rfl | rfl)
        · split_ifs with hc
          · rfl
          · rcases hq with hq | hq | ⟨hq, hq'⟩
            · exact hq
            · exact absurd (Or.inl hq) hc
            · exact absurd (Or.inr ⟨hq.symm, hq'⟩) hc
        · split_ifs with hc
          · rcases hp with hp | hp | ⟨hp, hp'⟩
            · exact hp
            · rcases hc with hc | ⟨hc, -⟩
              · exact absurd hp hc.asymm
              · exact absurd hc hp.ne
            · rcases hc with hc | ⟨-, hc⟩
              · exact absurd hp hc.ne'
              · exact absurd hp' (by omega)
          · rfl
      rcases h with h | h
      · exact Or.inl (hpw (Or.inl h))
      · rcases List.mem_cons.mp h with h | h
        · exact Or.inl (hpw (Or.inr h.symm))
        · exact Or.inr h

/-- The pairs of a row: its entries with their columns, in order. -/
def fiber (s : Vec Ideal S32x1000000 .f32) (r : Fin 32) : List (EReal × BitVec 32) :=
  Host.argReduceFiber (α := EReal) (β := BitVec 32) s (iotaInDim S32x1000000 32 1) reducesTo_S32x1000000_S32_d1 (ix1 r)

/-- Every pair of a row is an entry with its column. -/
theorem mem_fiber (s : Vec Ideal S32x1000000 .f32) (r : Fin 32) (q : EReal × BitVec 32) (hq : q ∈ fiber s r) :
    ∃ k : Fin 1000000, q = (s (ix2 r k), BitVec.ofNat 32 k.val) := by
  simp only [fiber, Host.argReduceFiber, List.mem_map, List.mem_filter, decide_eq_true_eq] at hq
  obtain ⟨n, ⟨-, hn⟩, rfl⟩ := hq
  generalize S32x1000000.rowMajor.symm n = i at hn
  rw [Shape.ReducesTo.drop_eq_drop reducesTo_S32x1000000_S32_d1 reduces_row] at hn
  have hi := reduces_row.lift_drop i
  rw [hn] at hi
  obtain ⟨k, rfl⟩ : ∃ k : Fin 1000000, i = ix2 r k := ⟨i 1, hi.symm.trans (lift_at reduces_row r (i 1))⟩
  exact ⟨k, rfl⟩

/-- Every entry of a row is there with its column. -/
theorem fiber_mem (s : Vec Ideal S32x1000000 .f32) (r : Fin 32) (k : Fin 1000000) : (s (ix2 r k), BitVec.ofNat 32 k.val) ∈ fiber s r := by
  simp only [fiber, Host.argReduceFiber, List.mem_map, List.mem_filter, decide_eq_true_eq]
  refine ⟨S32x1000000.rowMajor (ix2 r k), ⟨List.mem_finRange _, ?_⟩, ?_⟩
  · rw [Equiv.symm_apply_apply, Shape.ReducesTo.drop_eq_drop reducesTo_S32x1000000_S32_d1 reduces_row,
      ← lift_at reduces_row r k]
    exact reduces_row.drop_lift (ix1 r) k
  · rw [Equiv.symm_apply_apply]
    rfl

/-- The arg-max of a row is the column of any pair the fold over the row's pairs ends with. -/
theorem argmaxOf_at (s : Vec Ideal S32x1000000 .f32) (r : Fin 32) (w : EReal × BitVec 32)
    (h : (fiber s r).foldl (reducer_argmax_f32_i32 (F := Ideal)) (Ideal.ofBits .f32 0xFF800000#32, 0#32) = w) :
    argmaxOf s (ix1 r) = w.2 := by
  unfold argmaxOf
  exact seconds_eq ((congrFun (Ideal.argReduce_eq_reduce2 (φ := .f32) (reducer_argmax_f32_i32 (F := Ideal)) s (iotaInDim S32x1000000 32 1)
    (constant (F := Ideal) S_ .f32 0xFF800000#32) (constantI S_ 32 0#32) reducesTo_S32x1000000_S32_d1 h_S_) (ix1 r)).trans
    ((Host.reduce2_eq_foldl_fiber (reducer_argmax_f32_i32 (F := Ideal)) s (iotaInDim S32x1000000 32 1)
    (constant (F := Ideal) S_ .f32 0xFF800000#32) (constantI S_ 32 0#32) reducesTo_S32x1000000_S32_d1 h_S_ (ix1 r)).trans h))

/-- The first result at a row is the first column of largest score. -/
theorem out0_at (x u : Vec Ideal S32x1000000 .f32) (r : Fin 32) (a : ℕ) (ha : First (rowS x u r) a) (hS : ⊥ < rowS x u r a) :
    out0 x u (ix1 r) = BitVec.ofNat 32 a := by
  have hs : ∀ k : Fin 1000000, scores x u (ix2 r k) = rowS x u r k.val := fun k => by
    rw [scores_at, rowS, dif_pos k.isLt]
  unfold out0
  refine argmaxOf_at _ r (rowS x u r a, BitVec.ofNat 32 a) (argmax_wins _ _ ?_ _ (Or.inr (Or.inl ?_)) (Or.inr ?_))
  · intro q hq
    obtain ⟨k, rfl⟩ := mem_fiber _ r q hq
    rw [hs]
    rcases lt_trichotomy k.val a with h | h | h
    · exact Or.inr (Or.inl (ha.2.2 _ h))
    · exact Or.inl (by rw [h])
    · rcases (ha.2.1 k.val).lt_or_eq with h' | h'
      · exact Or.inr (Or.inl h')
      · refine Or.inr (Or.inr ⟨h', ?_⟩)
        show (BitVec.ofNat 32 a).toInt < (BitVec.ofNat 32 k.val).toInt
        rw [toInt_ofNat a ha.1, toInt_ofNat k.val k.isLt]
        omega
  · rw [ofBits_bot]
    exact hS
  · have := fiber_mem (scores x u) r ⟨a, ha.1⟩
    rwa [hs] at this

/-- The reference's two results at a row. -/
theorem row_result (x u : Vec Ideal S32x1000000 .f32) (r : Fin 32) (a : ℕ) (ha : First (rowS x u r) a) (hS : ⊥ < rowS x u r a)
    (hX : ∀ k : Fin 1000000, (⊥ : EReal) < x (ix2 r k)) : RowResult x u r (out0 x u (ix1 r)) (out1 x u (ix2 r 0)) := by
  refine ⟨a, ha, out0_at x u r a ha hS, ?_⟩
  unfold out1
  rw [scaled_eq, takeOf_at _ _ r a ha.1 ((tall_at _ r).trans (out0_at x u r a ha hS)), logSoftmax_at,
    rowSum_at]
  simp only [shifted_at, rowMax_at]
  rw [logsum (fun k => x (ix2 r k)) hX ⟨a, ha.1⟩, rowX, dif_pos ha.1]
  simp only [rowE, Fin.is_lt, dite_true, Fin.eta]

end Cert.ReferenceIdeal.Value

end
-- ==== Proof.Equal.lean ====
/-
# The two programs' results, equal

What the precondition says of one entry, that it gives every column a score above minus infinity, and that the kernel's
and the reference's results are then the same.
-/
module

public import proofs.«01_k».proof.Defs
public import proofs.«01_k».proof.Proof.Results
public import proofs.«01_k».proof.Proof.RefValue

@[expose] public section

noncomputable section

namespace Cert.Proof

open Idealize.ShloMosaic Idealize.SL.Sem
open Cert.Lanes

/-! ## The precondition -/

/-- The precondition's shapes agree. -/
theorem met_facts : Cert.Pre_met.Facts := ⟨by decide⟩

/-- The small constant is a real number. -/
theorem eps_real : ∃ e : ℝ, eps = (e : EReal) := by
  have h : eps = Ideal.ieee 8 23 0x2EDBE6FF#32 := rfl
  rw [h]
  unfold Ideal.ieee
  rw [if_neg (by decide), if_neg (by decide)]
  exact ⟨_, rfl⟩

/-- A logit above minus infinity and a draw that is positive with the small constant added give a score above minus infinity. -/
theorem bot_lt_score (x u : EReal) (hx : ⊥ < x) (hu : 0 < u + eps) : ⊥ < score x u := by
  obtain ⟨e, he⟩ := eps_real
  have key : ∀ v : EReal, 0 < v → Ideal.log (0 - Ideal.log v + (e : EReal)) ≠ ⊤ := by
    intro v hv
    induction v with
    | bot => exact absurd hv (by simp)
    | top =>
      have h : Ideal.log (0 - Ideal.log ⊤ + (e : EReal)) = ⊥ := by
        show Ideal.log (0 - ⊤ + (e : EReal)) = ⊥
        rw [zero_sub, EReal.neg_top, EReal.bot_add]
        rfl
      rw [h]
      exact bot_ne_top
    | coe r =>
      have hr : 0 < r := by exact_mod_cast hv
      have h : Ideal.log (r : EReal) = ((Real.log r : ℝ) : EReal) := by
        show (if r ≤ 0 then ⊥ else ((Real.log r : ℝ) : EReal)) = _
        rw [if_neg (not_le.mpr hr)]
      rw [h, zero_sub, ← EReal.coe_neg, ← EReal.coe_add]
      show (if -Real.log r + e ≤ 0 then ⊥ else ((Real.log (-Real.log r + e) : ℝ) : EReal)) ≠ ⊤
      split_ifs
      · exact bot_ne_top
      · exact EReal.coe_ne_top _
  have h := key (u + eps) hu
  rw [score, he] at *
  generalize Ideal.log (0 - Ideal.log (u + (e : EReal)) + (e : EReal)) = w at h
  rw [sub_eq_add_neg, EReal.bot_lt_add_iff]
  refine ⟨hx, ?_⟩
  rw [bot_lt_iff_ne_bot]
  intro hn
  exact h (by rw [← neg_neg w, hn, EReal.neg_bot])

section
attribute [local instance] met_facts

/-- The precondition at one entry. -/
theorem met_at (x u : Rows) (h : Cert.Pre_met.fn (F := Ideal) x u = fun _ => 1#1) (i : (⟨2, ![32, 1000000]⟩ : Shape).Idx) :
    ⊥ < x i ∧ 0 < u i + eps := by
  have h1 : IntOp.andi (BitVec.ofBool (decide (Ideal.ofBits .f32 0xFF800000#32 < x i)))
      (BitVec.ofBool (decide (Ideal.ofBits .f32 0x00000000#32 < u i + eps))) = 1#1 := congrFun h i
  rw [ofBits_bot, ofBits_nil] at h1
  by_cases ha : ⊥ < x i <;> by_cases hb : 0 < u i + eps <;> simp [ha, hb, IntOp.andi] at h1 ⊢

/-- So every column of every row has a score above minus infinity. -/
theorem met_row (x u : Rows) (h : Cert.Pre_met.fn (F := Ideal) x u = fun _ => 1#1) (r : Fin 32) (n : ℕ) (hn : n < 1000000) :
    ⊥ < rowS x u r n := by
  rw [rowS, dif_pos hn]
  exact bot_lt_score _ _ (met_at x u h _).1 (met_at x u h _).2
end

/-! ## The results -/

section
open Cert.KernelIdeal Cert.KernelIdeal.Gen TcCoe
attribute [local instance] met_facts
variable (m : (ℓ : Loc nD τ sig) → Buf (Elt Ideal) ℓ) (ρ : Dev nD → PrngReg)

/-- At a row the two programs' results are the same. -/
theorem row_equal (c : Dev nD) (A : Arrs1 (F := Ideal) c) (hA : Ends1 m ρ c A) (h : Cert.Pre_met.fn (F := Ideal) (mX m c) (mU m c) = fun _ => 1#1) (r : Fin 32) :
    (W3 m ρ c A main_v2 : Vec Ideal S32 .i32) (ix1 r) = Cert.ReferenceIdeal.Value.out0 (F := Ideal) (mX m c) (mU m c) (ix1 r)
    ∧ (W3 m ρ c A main_v1_1 : Vec Ideal S32x1 .f32) (ix2 r 0) = Cert.ReferenceIdeal.Value.out1 (F := Ideal) (mX m c) (mU m c) (ix2 r 0) := by
  have hS := met_row _ _ h r
  have hk := row_result m ρ c A hA r hS
  obtain ⟨a, ha, -⟩ := id hk
  exact hk.unique (Cert.ReferenceIdeal.Value.row_result _ _ r a ha (hS a ha.1) fun k => (met_at _ _ h _).1)

/-- So they are the same arrays. -/
theorem idx_equal (c : Dev nD) (A : Arrs1 (F := Ideal) c) (hA : Ends1 m ρ c A) (h : Cert.Pre_met.fn (F := Ideal) (mX m c) (mU m c) = fun _ => 1#1) :
    (W3 m ρ c A main_v2 : Vec Ideal S32 .i32) = Cert.ReferenceIdeal.Value.out0 (F := Ideal) (mX m c) (mU m c) := by
  funext j
  idx_vars j
  exact (row_equal m ρ c A hA h _).1
/-- The same of the log-probabilities. -/
theorem logp_equal (c : Dev nD) (A : Arrs1 (F := Ideal) c) (hA : Ends1 m ρ c A) (h : Cert.Pre_met.fn (F := Ideal) (mX m c) (mU m c) = fun _ => 1#1) :
    (W3 m ρ c A main_v1_1 : Vec Ideal S32x1 .f32) = Cert.ReferenceIdeal.Value.out1 (F := Ideal) (mX m c) (mU m c) := by
  funext j
  idx_vars j
  rw [show j1 = 0 from Subsingleton.elim _ _]
  exact (row_equal m ρ c A hA h j0).2
end

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Run
public import proofs.«01_k».proof.Proof.RefRun
public import proofs.«01_k».proof.Proof.Equal
public import Idealize.ShloMosaic.Adequacy
public import Idealize.ShloMosaic.Init

@[expose] public section

set_option maxRecDepth 16384

noncomputable section

namespace Cert.Proof

open Idealize.ShloMosaic Idealize.SL.Sem

/-! ## The kernel's frame -/

section Transfer
attribute [local instance] Cert.Kernel.Gen.facts

/-- The two copies of the printed kernel have the same bodies. -/
theorem defs₀_same : Cert.Kernel.defs₀ (F := Bits) = Cert.KernelIdeal.defs₀ (F := Bits) := by
  unfold Cert.Kernel.defs₀ Cert.KernelIdeal.defs₀
  congr 1
  funext ℓ a
  match ℓ, a with
  | 0, (t, s) => rfl
  | 1, (t, s) => rfl

/-- So they have the same functions. -/
theorem defs_same : Cert.Kernel.defs (F := Bits) = Cert.KernelIdeal.defs (F := Bits) := by
  unfold Cert.Kernel.defs Cert.KernelIdeal.defs
  exact congrArg _ defs₀_same

/-- The kernel's frame: the one proved for any float type, at the machine's floats. -/
theorem kernel_frame : Cert.quiescent_Kernel := fun m g _ => by
  rw [defs_same]
  exact Cert.KernelIdeal.Gen.frame (F := Bits) m g

end Transfer

/-! ## The reference's frame -/

/-- The reference has no semaphore. -/
theorem no_sem : (Finset.univ : Finset (SemLoc Cert.ReferenceIdeal.sig)) = ∅ := by decide

/-- The reference's frame, out of its run; it has no semaphore. -/
theorem reference_frame : Cert.quiescent_ReferenceIdeal (hReferenceIdeal := Cert.ReferenceIdeal.Gen.facts) := fun m g _ =>
  (θ_run _ _ _).mono (fun _ h => ⟨fun c => ⟨(h c).2.2.1, (h c).2.2.2⟩, funext fun i => absurd (Finset.mem_univ i.2) (by rw [no_sem]; exact Finset.notMem_empty _)⟩)
    (Cert.ReferenceIdeal.Value.run (F := Ideal) m g)

/-! ## The value claim -/

section Value
attribute [local instance] met_facts
open Cert.KernelIdeal Cert.KernelIdeal.Gen TcCoe

/-- From the same arguments, which meet the precondition, the kernel and the reference end with the same results: both end with the
    reference's stages' values. -/
theorem algebraic : Cert.algebraic_KernelIdeal_ReferenceIdeal_pre_met (hKernelIdeal := Cert.KernelIdeal.Gen.facts)
    (hReferenceIdeal := Cert.ReferenceIdeal.Gen.facts) := fun m g m' g' hpre hagree =>
  ⟨fun c => Cert.ReferenceIdeal.Value.out0 (F := Ideal) (mX m c) (mU m c),
   fun c => Cert.ReferenceIdeal.Value.out1 (F := Ideal) (mX m c) (mU m c),
   (θ_run _ _ _).mono (fun r h c => by
      obtain ⟨A, hA, hr⟩ := h.1 c
      exact ⟨(hr _ (mem_uc main_v2 (by decide))).trans (idx_equal m g c A hA (hpre c)),
        (hr _ (mem_uc main_v1_1 (by decide))).trans (logp_equal m g c A hA (hpre c)),
        (hr _ (mem_uc main_arg0 (by decide))).trans (W3_main_arg0 m g c A hA),
        (hr _ (mem_uc main_arg1 (by decide))).trans (W3_main_arg1 m g c A hA)⟩) (run_all (F := Ideal) m g),
   (θ_run _ _ _).mono (fun r h c => by
      obtain ⟨h0, h1, h2, h3⟩ := h c
      rw [(hagree c).1, (hagree c).2] at h0 h1
      exact ⟨h0, h1, h2, h3⟩) (Cert.ReferenceIdeal.Value.run (F := Ideal) m' g')⟩

end Value

/-- The certificate's claims. -/
theorem claim : Cert.Claim := ⟨Cert.Kernel.Gen.facts, Cert.KernelIdeal.Gen.facts, Cert.ReferenceIdeal.Gen.facts, met_facts,
  kernel_frame, fun m g _ => Cert.KernelIdeal.Gen.frame (F := Ideal) m g, fun m g _ => Cert.KernelIdeal.Gen.frame (F := Ideal) m g,
  reference_frame, fun m g _ => reference_frame m g trivial, trivial, algebraic⟩

end Cert.Proof

end
